-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x16x256 : Shape := ⟨4, ![8, 2048, 16, 256]⟩
abbrev S8x2048x16 : Shape := ⟨3, ![8, 2048, 16]⟩
abbrev S8x2048x4x256 : Shape := ⟨4, ![8, 2048, 4, 256]⟩
abbrev S8x2048x4 : Shape := ⟨3, ![8, 2048, 4]⟩
abbrev S8x4x256 : Shape := ⟨3, ![8, 4, 256]⟩
abbrev S8x2x8x128x16x256 : Shape := ⟨6, ![8, 2, 8, 128, 16, 256]⟩
abbrev S8x8x2x16x128x256 : Shape := ⟨6, ![8, 8, 2, 16, 128, 256]⟩
abbrev S8x8x2x4x512x256 : Shape := ⟨6, ![8, 8, 2, 4, 512, 256]⟩
abbrev S_ : Shape := ⟨0, ![]⟩
abbrev S8x2x8x128x16 : Shape := ⟨5, ![8, 2, 8, 128, 16]⟩
abbrev S8x8x2x16x128 : Shape := ⟨5, ![8, 8, 2, 16, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x2048x128 : Shape := ⟨4, ![8, 4, 2048, 128]⟩
abbrev S8x4x256x2048 : Shape := ⟨4, ![8, 4, 256, 2048]⟩
abbrev S8x4x1x256 : Shape := ⟨4, ![8, 4, 1, 256]⟩
abbrev S8x2x1024x4096 : Shape := ⟨4, ![8, 2, 1024, 4096]⟩
abbrev S1x1x2x4x512x256 : Shape := ⟨6, ![1, 1, 2, 4, 512, 256]⟩
abbrev S1x1x2x16x128 : Shape := ⟨5, ![1, 1, 2, 16, 128]⟩
abbrev S1x4x2048x256 : Shape := ⟨4, ![1, 4, 2048, 256]⟩
abbrev S1x4x2048x128 : Shape := ⟨4, ![1, 4, 2048, 128]⟩
abbrev S1x4x256x2048 : Shape := ⟨4, ![1, 4, 256, 2048]⟩
abbrev S1x4x1x256 : Shape := ⟨4, ![1, 4, 1, 256]⟩
abbrev S1x2x128x4096 : Shape := ⟨4, ![1, 2, 128, 4096]⟩
abbrev S2x2048x512 : Shape := ⟨3, ![2, 2048, 512]⟩
abbrev S2x4x1x128 : Shape := ⟨4, ![2, 4, 1, 128]⟩
abbrev S1x1x128x256 : Shape := ⟨4, ![1, 1, 128, 256]⟩
abbrev S128x256 : Shape := ⟨2, ![128, 256]⟩
abbrev S1x1x1x1x512x256 : Shape := ⟨6, ![1, 1, 1, 1, 512, 256]⟩
abbrev S512x256 : Shape := ⟨2, ![512, 256]⟩
abbrev S128x512 : Shape := ⟨2, ![128, 512]⟩
abbrev S1x1x128x128 : Shape := ⟨4, ![1, 1, 128, 128]⟩
abbrev S128x128 : Shape := ⟨2, ![128, 128]⟩
abbrev S1x128x128 : Shape := ⟨3, ![1, 128, 128]⟩
abbrev S16x8x128 : Shape := ⟨3, ![16, 8, 128]⟩
abbrev S8x128 : Shape := ⟨2, ![8, 128]⟩
abbrev S128 : Shape := ⟨1, ![128]⟩
abbrev S1x128 : Shape := ⟨2, ![1, 128]⟩
abbrev S1x1x1x128 : Shape := ⟨4, ![1, 1, 1, 128]⟩
abbrev S1x1x1152x256 : Shape := ⟨4, ![1, 1, 1152, 256]⟩
abbrev S1152x256 : Shape := ⟨2, ![1152, 256]⟩
abbrev S1152x512 : Shape := ⟨2, ![1152, 512]⟩
abbrev S1x1x1x1x128 : Shape := ⟨5, ![1, 1, 1, 1, 128]⟩
abbrev S1x1x256x128 : Shape := ⟨4, ![1, 1, 256, 128]⟩
abbrev S256x128 : Shape := ⟨2, ![256, 128]⟩
abbrev S256x512 : Shape := ⟨2, ![256, 512]⟩
abbrev S1x1x1x256 : Shape := ⟨4, ![1, 1, 1, 256]⟩
abbrev S1x256 : Shape := ⟨2, ![1, 256]⟩
abbrev S1x1x256x1152 : Shape := ⟨4, ![1, 1, 256, 1152]⟩
abbrev S256x1152 : Shape := ⟨2, ![256, 1152]⟩
abbrev S1x1x256x256 : Shape := ⟨4, ![1, 1, 256, 256]⟩
abbrev S256x256 : Shape := ⟨2, ![256, 256]⟩
abbrev S1x1x1280x256 : Shape := ⟨4, ![1, 1, 1280, 256]⟩
abbrev S1280x256 : Shape := ⟨2, ![1280, 256]⟩
abbrev S1280x512 : Shape := ⟨2, ![1280, 512]⟩
abbrev S1x1x256x1280 : Shape := ⟨4, ![1, 1, 256, 1280]⟩
abbrev S256x1280 : Shape := ⟨2, ![256, 1280]⟩
abbrev S1x1x384x256 : Shape := ⟨4, ![1, 1, 384, 256]⟩
abbrev S384x256 : Shape := ⟨2, ![384, 256]⟩
abbrev S384x512 : Shape := ⟨2, ![384, 512]⟩
abbrev S1x1x1408x256 : Shape := ⟨4, ![1, 1, 1408, 256]⟩
abbrev S1408x256 : Shape := ⟨2, ![1408, 256]⟩
abbrev S1408x512 : Shape := ⟨2, ![1408, 512]⟩
abbrev S1x1x256x384 : Shape := ⟨4, ![1, 1, 256, 384]⟩
abbrev S256x384 : Shape := ⟨2, ![256, 384]⟩
abbrev S1x1x256x1408 : Shape := ⟨4, ![1, 1, 256, 1408]⟩
abbrev S256x1408 : Shape := ⟨2, ![256, 1408]⟩
abbrev S1x1x512x256 : Shape := ⟨4, ![1, 1, 512, 256]⟩
abbrev S512x512 : Shape := ⟨2, ![512, 512]⟩
abbrev S1x1x1536x256 : Shape := ⟨4, ![1, 1, 1536, 256]⟩
abbrev S1536x256 : Shape := ⟨2, ![1536, 256]⟩
abbrev S1536x512 : Shape := ⟨2, ![1536, 512]⟩
abbrev S1x1x256x512 : Shape := ⟨4, ![1, 1, 256, 512]⟩
abbrev S1x1x256x1536 : Shape := ⟨4, ![1, 1, 256, 1536]⟩
abbrev S256x1536 : Shape := ⟨2, ![256, 1536]⟩
abbrev S1x1x640x256 : Shape := ⟨4, ![1, 1, 640, 256]⟩
abbrev S640x256 : Shape := ⟨2, ![640, 256]⟩
abbrev S640x512 : Shape := ⟨2, ![640, 512]⟩
abbrev S1x1x1664x256 : Shape := ⟨4, ![1, 1, 1664, 256]⟩
abbrev S1664x256 : Shape := ⟨2, ![1664, 256]⟩
abbrev S1664x512 : Shape := ⟨2, ![1664, 512]⟩
abbrev S1x1x256x640 : Shape := ⟨4, ![1, 1, 256, 640]⟩
abbrev S256x640 : Shape := ⟨2, ![256, 640]⟩
abbrev S1x1x256x1664 : Shape := ⟨4, ![1, 1, 256, 1664]⟩
abbrev S256x1664 : Shape := ⟨2, ![256, 1664]⟩
abbrev S1x1x768x256 : Shape := ⟨4, ![1, 1, 768, 256]⟩
abbrev S768x256 : Shape := ⟨2, ![768, 256]⟩
abbrev S768x512 : Shape := ⟨2, ![768, 512]⟩
abbrev S1x1x1792x256 : Shape := ⟨4, ![1, 1, 1792, 256]⟩
abbrev S1792x256 : Shape := ⟨2, ![1792, 256]⟩
abbrev S1792x512 : Shape := ⟨2, ![1792, 512]⟩
abbrev S1x1x256x768 : Shape := ⟨4, ![1, 1, 256, 768]⟩
abbrev S256x768 : Shape := ⟨2, ![256, 768]⟩
abbrev S1x1x256x1792 : Shape := ⟨4, ![1, 1, 256, 1792]⟩
abbrev S256x1792 : Shape := ⟨2, ![256, 1792]⟩
abbrev S1x1x896x256 : Shape := ⟨4, ![1, 1, 896, 256]⟩
abbrev S896x256 : Shape := ⟨2, ![896, 256]⟩
abbrev S896x512 : Shape := ⟨2, ![896, 512]⟩
abbrev S1x1x1920x256 : Shape := ⟨4, ![1, 1, 1920, 256]⟩
abbrev S1920x256 : Shape := ⟨2, ![1920, 256]⟩
abbrev S1920x512 : Shape := ⟨2, ![1920, 512]⟩
abbrev S1x1x256x896 : Shape := ⟨4, ![1, 1, 256, 896]⟩
abbrev S256x896 : Shape := ⟨2, ![256, 896]⟩
abbrev S1x1x256x1920 : Shape := ⟨4, ![1, 1, 256, 1920]⟩
abbrev S256x1920 : Shape := ⟨2, ![256, 1920]⟩
abbrev S1x1x1024x256 : Shape := ⟨4, ![1, 1, 1024, 256]⟩
abbrev S1024x256 : Shape := ⟨2, ![1024, 256]⟩
abbrev S1024x512 : Shape := ⟨2, ![1024, 512]⟩
abbrev S1x1x2048x256 : Shape := ⟨4, ![1, 1, 2048, 256]⟩
abbrev S2048x256 : Shape := ⟨2, ![2048, 256]⟩
abbrev S2048x512 : Shape := ⟨2, ![2048, 512]⟩
abbrev S1x1x256x1024 : Shape := ⟨4, ![1, 1, 256, 1024]⟩
abbrev S256x1024 : Shape := ⟨2, ![256, 1024]⟩
abbrev S1x1x256x2048 : Shape := ⟨4, ![1, 1, 256, 2048]⟩
abbrev S256x2048 : Shape := ⟨2, ![256, 2048]⟩

abbrev nBuf : Space → Nat
  | .hbm => 27
  | .vmem => 17
  | .smem => 0
  | _ => 0

abbrev bufTy : (tb : Table) → Fin (tcTables nBuf tb) → BufTy
  | .hbm, ⟨0, _⟩ => ⟨S8x2048x16x256, .fp8e4m3⟩
  | .hbm, ⟨1, _⟩ => ⟨S8x2048x16, .f32⟩
  | .hbm, ⟨2, _⟩ => ⟨S8x2048x4x256, .fp8e4m3⟩
  | .hbm, ⟨3, _⟩ => ⟨S8x2048x4, .f32⟩
  | .hbm, ⟨4, _⟩ => ⟨S8x2048x4x256, .fp8e4m3⟩
  | .hbm, ⟨5, _⟩ => ⟨S8x4x256, .f32⟩
  | .hbm, ⟨6, _⟩ => ⟨S8x2x8x128x16x256, .fp8e4m3⟩
  | .hbm, ⟨7, _⟩ => ⟨S8x8x2x16x128x256, .fp8e4m3⟩
  | .hbm, ⟨8, _⟩ => ⟨S8x8x2x4x512x256, .fp8e4m3⟩
  | .hbm, ⟨9, _⟩ => ⟨S_, .f32⟩
  | .hbm, ⟨10, _⟩ => ⟨S8x2048x16, .f32⟩
  | .hbm, ⟨11, _⟩ => ⟨S8x2048x16, .f32⟩
  | .hbm, ⟨12, _⟩ => ⟨S8x2x8x128x16, .f32⟩
  | .hbm, ⟨13, _⟩ => ⟨S8x8x2x16x128, .f32⟩
  | .hbm, ⟨14, _⟩ => ⟨S8x4x2048x256, .fp8e4m3⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8x2048x4, .f32⟩
  | .hbm, ⟨20, _⟩ => ⟨S8x2048x4, .f32⟩
  | .hbm, ⟨21, _⟩ => ⟨S8x4x2048, .f32⟩
  | .hbm, ⟨22, _⟩ => ⟨S8x4x2048x1, .f32⟩
  | .hbm, ⟨23, _⟩ => ⟨S8x4x2048x128, .f32⟩
  | .hbm, ⟨24, _⟩ => ⟨S8x4x256x2048, .fp8e4m3⟩
  | .hbm, ⟨25, _⟩ => ⟨S8x4x1x256, .f32⟩
  | .hbm, ⟨26, _⟩ => ⟨S8x2x1024x4096, .bf16⟩
  | .local _ .vmem, ⟨0, _⟩ => ⟨S1x1x2x4x512x256, .fp8e4m3⟩
  | .local _ .vmem, ⟨1, _⟩ => ⟨S1x1x2x4x512x256, .fp8e4m3⟩
  | .local _ .vmem, ⟨2, _⟩ => ⟨S1x1x2x16x128, .f32⟩
  | .local _ .vmem, ⟨3, _⟩ => ⟨S1x1x2x16x128, .f32⟩
  | .local _ .vmem, ⟨4, _⟩ => ⟨S1x4x2048x256, .fp8e4m3⟩
  | .local _ .vmem, ⟨5, _⟩ => ⟨S1x4x2048x256, .fp8e4m3⟩
  | .local _ .vmem, ⟨6, _⟩ => ⟨S1x4x2048x128, .f32⟩
  | .local _ .vmem, ⟨7, _⟩ => ⟨S1x4x2048x128, .f32⟩
  | .local _ .vmem, ⟨8, _⟩ => ⟨S1x4x256x2048, .fp8e4m3⟩
  | .local _ .vmem, ⟨9, _⟩ => ⟨S1x4x256x2048, .fp8e4m3⟩
  | .local _ .vmem, ⟨10, _⟩ => ⟨S1x4x1x256, .f32⟩
  | .local _ .vmem, ⟨11, _⟩ => ⟨S1x4x1x256, .f32⟩
  | .local _ .vmem, ⟨12, _⟩ => ⟨S1x2x128x4096, .bf16⟩
  | .local _ .vmem, ⟨13, _⟩ => ⟨S1x2x128x4096, .bf16⟩
  | .local _ .vmem, ⟨14, _⟩ => ⟨S2x2048x512, .f32⟩
  | .local _ .vmem, ⟨15, _⟩ => ⟨S2x4x1x128, .f32⟩
  | .local _ .vmem, ⟨16, _⟩ => ⟨S2x2048x512, .fp8e4m3⟩
  | _, _ => ⟨S8x2048x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off1 (k0_t1 : Fin k0_t1_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off2 (k0_t1 : Fin k0_t1_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off3 (k0_t1 : Fin k0_t1_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off4 (k0_t1 : Fin k0_t1_loop.trips) : Fin 4 → Nat :=
  let c0_58 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v105 : Index := Scalar.indexCast v26
  let c0_59 : Index := 0#32
  let c0_60 : Index := 0#32
  ![0, v105.toNat, 0, 0]
def k0_off5 (k0_t1 : Fin k0_t1_loop.trips) : Fin 6 → Nat :=
  let c0_61 : Index := 0#32
  let c0_62 : Index := 0#32
  let c1_63 : Index := 1#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v108 : Index := Scalar.indexCast v26
  let c0_64 : Index := 0#32
  let c0_65 : Index := 0#32
  ![0, 0, 1, v108.toNat, 0, 0]
def k0_off6 (k0_t1 : Fin k0_t1_loop.trips) : Fin 4 → Nat :=
  let c0_86 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v143 : Index := Scalar.indexCast v26
  let c128_87 : Index := 128#32
  let c0_88 : Index := 0#32
  ![0, v143.toNat, 128, 0]
def k0_off7 (k0_t1 : Fin k0_t1_loop.trips) : Fin 4 → Nat :=
  let c0_105 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v178 : Index := Scalar.indexCast v26
  let c256_106 : Index := 256#32
  let c0_107 : Index := 0#32
  ![0, v178.toNat, 256, 0]
def k0_off8 (k0_t1 : Fin k0_t1_loop.trips) : Fin 4 → Nat :=
  let c0_124 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v213 : Index := Scalar.indexCast v26
  let c384_125 : Index := 384#32
  let c0_126 : Index := 0#32
  ![0, v213.toNat, 384, 0]
def k0_off9 (k0_t1 : Fin k0_t1_loop.trips) : Fin 4 → Nat :=
  let c0_143 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v248 : Index := Scalar.indexCast v26
  let c512 : Index := 512#32
  let c0_144 : Index := 0#32
  ![0, v248.toNat, 512, 0]
def k0_off10 (k0_t1 : Fin k0_t1_loop.trips) : Fin 4 → Nat :=
  let c0_161 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v283 : Index := Scalar.indexCast v26
  let c640 : Index := 640#32
  let c0_162 : Index := 0#32
  ![0, v283.toNat, 640, 0]
def k0_off11 (k0_t1 : Fin k0_t1_loop.trips) : Fin 4 → Nat :=
  let c0_179 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v318 : Index := Scalar.indexCast v26
  let c768 : Index := 768#32
  let c0_180 : Index := 0#32
  ![0, v318.toNat, 768, 0]
def k0_off12 (k0_t1 : Fin k0_t1_loop.trips) : Fin 4 → Nat :=
  let c0_197 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v353 : Index := Scalar.indexCast v26
  let c896 : Index := 896#32
  let c0_198 : Index := 0#32
  ![0, v353.toNat, 896, 0]
def k0_off13 (k0_t1 : Fin k0_t1_loop.trips) : Fin 4 → Nat :=
  let c0_215 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v388 : Index := Scalar.indexCast v26
  let c1024 : Index := 1024#32
  let c0_216 : Index := 0#32
  ![0, v388.toNat, 1024, 0]
def k0_off14 (k0_t1 : Fin k0_t1_loop.trips) (c0_i32_258 : BitVec 32) : Fin 5 → Nat :=
  let c0_259 : Index := 0#32
  let c0_260 : Index := 0#32
  let c0_261 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_257 : BitVec 32 := 4#32
  let v463 : BitVec 32 := Scalar.muli v26 c4_i32_257
  let v464 : BitVec 32 := Scalar.addi v463 c0_i32_258
  let v465 : Index := Scalar.indexCast v464
  let c0_262 : Index := 0#32
  ![0, 0, 0, v465.toNat, 0]
def k0_off15 (k0_t1 : Fin k0_t1_loop.trips) : Fin 4 → Nat :=
  let c0_357 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v596 : Index := Scalar.indexCast v26
  let c0_358 : Index := 0#32
  let c0_359 : Index := 0#32
  ![0, v596.toNat, 0, 0]
def k0_off16 (k0_t1 : Fin k0_t1_loop.trips) : Fin 4 → Nat :=
  let c0_361 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v600 : Index := Scalar.indexCast v26
  let c0_362 : Index := 0#32
  let c0_363 : Index := 0#32
  ![0, v600.toNat, 0, 0]
def k0_mult1 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_364 : BitVec 32 := 4#32
  let v609 : BitVec 32 := Scalar.muli v26 c4_i32_364
  let c0_i32_365 : BitVec 32 := 0#32
  let v610 : BitVec 32 := Scalar.addi v609 c0_i32_365
  let c256_i32 : BitVec 32 := 256#32
  let v611 : BitVec 32 := Scalar.muli v610 c256_i32
  v611
def k0_off17 (k0_t1 : Fin k0_t1_loop.trips) (c0_i32_365 : BitVec 32) : Fin 4 → Nat :=
  let c0_366 : Index := 0#32
  let c0_367 : Index := 0#32
  let c0_368 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_364 : BitVec 32 := 4#32
  let v609 : BitVec 32 := Scalar.muli v26 c4_i32_364
  let v610 : BitVec 32 := Scalar.addi v609 c0_i32_365
  let c256_i32 : BitVec 32 := 256#32
  let v611 : BitVec 32 := Scalar.muli v610 c256_i32
  let v612 : BitVec 32 := v611
  let v614 : Index := Scalar.indexCast v612
  ![0, 0, 0, v614.toNat]
def k0_mult2 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_369 : BitVec 32 := 4#32
  let v624 : BitVec 32 := Scalar.muli v26 c4_i32_369
  let c1_i32_370 : BitVec 32 := 1#32
  let v625 : BitVec 32 := Scalar.addi v624 c1_i32_370
  let c256_i32_371 : BitVec 32 := 256#32
  let v626 : BitVec 32 := Scalar.muli v625 c256_i32_371
  v626
def k0_mult3 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_375 : BitVec 32 := 4#32
  let v639 : BitVec 32 := Scalar.muli v26 c4_i32_375
  let c2_i32_376 : BitVec 32 := 2#32
  let v640 : BitVec 32 := Scalar.addi v639 c2_i32_376
  let c256_i32_377 : BitVec 32 := 256#32
  let v641 : BitVec 32 := Scalar.muli v640 c256_i32_377
  v641
def k0_mult4 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_381 : BitVec 32 := 4#32
  let v654 : BitVec 32 := Scalar.muli v26 c4_i32_381
  let c3_i32_382 : BitVec 32 := 3#32
  let v655 : BitVec 32 := Scalar.addi v654 c3_i32_382
  let c256_i32_383 : BitVec 32 := 256#32
  let v656 : BitVec 32 := Scalar.muli v655 c256_i32_383
  v656
def k0_off18 (k0_t1 : Fin k0_t1_loop.trips) (c0_i32_388 : BitVec 32) : Fin 5 → Nat :=
  let c0_389 : Index := 0#32
  let c0_390 : Index := 0#32
  let c1_391 : Index := 1#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_387 : BitVec 32 := 4#32
  let v663 : BitVec 32 := Scalar.muli v26 c4_i32_387
  let v664 : BitVec 32 := Scalar.addi v663 c0_i32_388
  let v665 : Index := Scalar.indexCast v664
  let c0_392 : Index := 0#32
  ![0, 0, 1, v665.toNat, 0]
def k0_off19 (k0_t1 : Fin k0_t1_loop.trips) : Fin 4 → Nat :=
  let c0_871 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let v1445 : Index := Scalar.indexCast v26
  let c0_872 : Index := 0#32
  let c0_873 : Index := 0#32
  ![0, v1445.toNat, 0, 0]
def k0_mult5 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_878 : BitVec 32 := 4#32
  let v1458 : BitVec 32 := Scalar.muli v26 c4_i32_878
  let c0_i32_879 : BitVec 32 := 0#32
  let v1459 : BitVec 32 := Scalar.addi v1458 c0_i32_879
  let c256_i32_880 : BitVec 32 := 256#32
  let v1460 : BitVec 32 := Scalar.muli v1459 c256_i32_880
  v1460
def k0_off20 (k0_t1 : Fin k0_t1_loop.trips) (c0_i32_879 : BitVec 32) : Fin 4 → Nat :=
  let c0_881 : Index := 0#32
  let c1_882 : Index := 1#32
  let c0_883 : Index := 0#32
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_878 : BitVec 32 := 4#32
  let v1458 : BitVec 32 := Scalar.muli v26 c4_i32_878
  let v1459 : BitVec 32 := Scalar.addi v1458 c0_i32_879
  let c256_i32_880 : BitVec 32 := 256#32
  let v1460 : BitVec 32 := Scalar.muli v1459 c256_i32_880
  let v1461 : BitVec 32 := v1460
  let v1463 : Index := Scalar.indexCast v1461
  ![0, 1, 0, v1463.toNat]
def k0_mult6 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_884 : BitVec 32 := 4#32
  let v1473 : BitVec 32 := Scalar.muli v26 c4_i32_884
  let c1_i32_885 : BitVec 32 := 1#32
  let v1474 : BitVec 32 := Scalar.addi v1473 c1_i32_885
  let c256_i32_886 : BitVec 32 := 256#32
  let v1475 : BitVec 32 := Scalar.muli v1474 c256_i32_886
  v1475
def k0_mult7 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_890 : BitVec 32 := 4#32
  let v1488 : BitVec 32 := Scalar.muli v26 c4_i32_890
  let c2_i32_891 : BitVec 32 := 2#32
  let v1489 : BitVec 32 := Scalar.addi v1488 c2_i32_891
  let c256_i32_892 : BitVec 32 := 256#32
  let v1490 : BitVec 32 := Scalar.muli v1489 c256_i32_892
  v1490
def k0_mult8 (k0_t1 : Fin k0_t1_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t1
  let c1_i32_12 : BitVec 32 := 1#32
  let v25 : BitVec 32 := Scalar.muli arg12 c1_i32_12
  let v26 : BitVec 32 := Scalar.addi c0_i32_13 v25
  let c4_i32_896 : BitVec 32 := 4#32
  let v1503 : BitVec 32 := Scalar.muli v26 c4_i32_896
  let c3_i32_897 : BitVec 32 := 3#32
  let v1504 : BitVec 32 := Scalar.addi v1503 c3_i32_897
  let c256_i32_898 : BitVec 32 := 256#32
  let v1505 : BitVec 32 := Scalar.muli v1504 c256_i32_898
  v1505
def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off21 (k0_t2 : Fin k0_t2_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off22 (k0_t2 : Fin k0_t2_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off23 (k0_t2 : Fin k0_t2_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off24 (k0_t2 : Fin k0_t2_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off25 (k0_t2 : Fin k0_t2_loop.trips) : Fin 4 → Nat :=
  let c0_77 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v140 : Index := Scalar.indexCast v26
  let c0_78 : Index := 0#32
  let c0_79 : Index := 0#32
  ![0, v140.toNat, 0, 0]
def k0_off26 (k0_t2 : Fin k0_t2_loop.trips) : Fin 6 → Nat :=
  let c0_80 : Index := 0#32
  let c0_81 : Index := 0#32
  let c1_82 : Index := 1#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v143 : Index := Scalar.indexCast v26
  let c0_83 : Index := 0#32
  let c0_84 : Index := 0#32
  ![0, 0, 1, v143.toNat, 0, 0]
def k0_off27 (k0_t2 : Fin k0_t2_loop.trips) : Fin 4 → Nat :=
  let c0_124 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v213 : Index := Scalar.indexCast v26
  let c256_125 : Index := 256#32
  let c0_126 : Index := 0#32
  ![0, v213.toNat, 256, 0]
def k0_off28 (k0_t2 : Fin k0_t2_loop.trips) : Fin 4 → Nat :=
  let c0_143 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v248 : Index := Scalar.indexCast v26
  let c384_144 : Index := 384#32
  let c0_145 : Index := 0#32
  ![0, v248.toNat, 384, 0]
def k0_off29 (k0_t2 : Fin k0_t2_loop.trips) : Fin 4 → Nat :=
  let c0_162 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v283 : Index := Scalar.indexCast v26
  let c512 : Index := 512#32
  let c0_163 : Index := 0#32
  ![0, v283.toNat, 512, 0]
def k0_off30 (k0_t2 : Fin k0_t2_loop.trips) : Fin 4 → Nat :=
  let c0_180 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v318 : Index := Scalar.indexCast v26
  let c640 : Index := 640#32
  let c0_181 : Index := 0#32
  ![0, v318.toNat, 640, 0]
def k0_off31 (k0_t2 : Fin k0_t2_loop.trips) : Fin 4 → Nat :=
  let c0_198 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v353 : Index := Scalar.indexCast v26
  let c768 : Index := 768#32
  let c0_199 : Index := 0#32
  ![0, v353.toNat, 768, 0]
def k0_off32 (k0_t2 : Fin k0_t2_loop.trips) : Fin 4 → Nat :=
  let c0_216 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v388 : Index := Scalar.indexCast v26
  let c896 : Index := 896#32
  let c0_217 : Index := 0#32
  ![0, v388.toNat, 896, 0]
def k0_off33 (k0_t2 : Fin k0_t2_loop.trips) : Fin 4 → Nat :=
  let c0_234 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v423 : Index := Scalar.indexCast v26
  let c1024 : Index := 1024#32
  let c0_235 : Index := 0#32
  ![0, v423.toNat, 1024, 0]
def k0_off34 (k0_t2 : Fin k0_t2_loop.trips) : Fin 4 → Nat :=
  let c0_252 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v458 : Index := Scalar.indexCast v26
  let c1152 : Index := 1152#32
  let c0_253 : Index := 0#32
  ![0, v458.toNat, 1152, 0]
def k0_off35 (k0_t2 : Fin k0_t2_loop.trips) (c0_i32_295 : BitVec 32) : Fin 5 → Nat :=
  let c0_296 : Index := 0#32
  let c0_297 : Index := 0#32
  let c0_298 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_294 : BitVec 32 := 4#32
  let v533 : BitVec 32 := Scalar.muli v26 c4_i32_294
  let v534 : BitVec 32 := Scalar.addi v533 c0_i32_295
  let v535 : Index := Scalar.indexCast v534
  let c0_299 : Index := 0#32
  ![0, 0, 0, v535.toNat, 0]
def k0_off36 (k0_t2 : Fin k0_t2_loop.trips) : Fin 4 → Nat :=
  let c0_442 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v748 : Index := Scalar.indexCast v26
  let c0_443 : Index := 0#32
  let c0_444 : Index := 0#32
  ![0, v748.toNat, 0, 0]
def k0_off37 (k0_t2 : Fin k0_t2_loop.trips) : Fin 4 → Nat :=
  let c0_446 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v752 : Index := Scalar.indexCast v26
  let c0_447 : Index := 0#32
  let c0_448 : Index := 0#32
  ![0, v752.toNat, 0, 0]
def k0_mult9 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_449 : BitVec 32 := 4#32
  let v761 : BitVec 32 := Scalar.muli v26 c4_i32_449
  let c0_i32_450 : BitVec 32 := 0#32
  let v762 : BitVec 32 := Scalar.addi v761 c0_i32_450
  let c256_i32 : BitVec 32 := 256#32
  let v763 : BitVec 32 := Scalar.muli v762 c256_i32
  v763
def k0_off38 (k0_t2 : Fin k0_t2_loop.trips) (c0_i32_450 : BitVec 32) : Fin 4 → Nat :=
  let c0_451 : Index := 0#32
  let c0_452 : Index := 0#32
  let c0_453 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_449 : BitVec 32 := 4#32
  let v761 : BitVec 32 := Scalar.muli v26 c4_i32_449
  let v762 : BitVec 32 := Scalar.addi v761 c0_i32_450
  let c256_i32 : BitVec 32 := 256#32
  let v763 : BitVec 32 := Scalar.muli v762 c256_i32
  let v764 : BitVec 32 := v763
  let v766 : Index := Scalar.indexCast v764
  ![0, 0, 0, v766.toNat]
def k0_mult10 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_454 : BitVec 32 := 4#32
  let v776 : BitVec 32 := Scalar.muli v26 c4_i32_454
  let c1_i32_455 : BitVec 32 := 1#32
  let v777 : BitVec 32 := Scalar.addi v776 c1_i32_455
  let c256_i32_456 : BitVec 32 := 256#32
  let v778 : BitVec 32 := Scalar.muli v777 c256_i32_456
  v778
def k0_mult11 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_460 : BitVec 32 := 4#32
  let v791 : BitVec 32 := Scalar.muli v26 c4_i32_460
  let c2_i32_461 : BitVec 32 := 2#32
  let v792 : BitVec 32 := Scalar.addi v791 c2_i32_461
  let c256_i32_462 : BitVec 32 := 256#32
  let v793 : BitVec 32 := Scalar.muli v792 c256_i32_462
  v793
def k0_mult12 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_466 : BitVec 32 := 4#32
  let v806 : BitVec 32 := Scalar.muli v26 c4_i32_466
  let c3_i32_467 : BitVec 32 := 3#32
  let v807 : BitVec 32 := Scalar.addi v806 c3_i32_467
  let c256_i32_468 : BitVec 32 := 256#32
  let v808 : BitVec 32 := Scalar.muli v807 c256_i32_468
  v808
def k0_off39 (k0_t2 : Fin k0_t2_loop.trips) (c0_i32_473 : BitVec 32) : Fin 5 → Nat :=
  let c0_474 : Index := 0#32
  let c0_475 : Index := 0#32
  let c1_476 : Index := 1#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_472 : BitVec 32 := 4#32
  let v815 : BitVec 32 := Scalar.muli v26 c4_i32_472
  let v816 : BitVec 32 := Scalar.addi v815 c0_i32_473
  let v817 : Index := Scalar.indexCast v816
  let c0_477 : Index := 0#32
  ![0, 0, 1, v817.toNat, 0]
def k0_off40 (k0_t2 : Fin k0_t2_loop.trips) : Fin 4 → Nat :=
  let c0_1004 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let v1678 : Index := Scalar.indexCast v26
  let c0_1005 : Index := 0#32
  let c0_1006 : Index := 0#32
  ![0, v1678.toNat, 0, 0]
def k0_mult13 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_1011 : BitVec 32 := 4#32
  let v1691 : BitVec 32 := Scalar.muli v26 c4_i32_1011
  let c0_i32_1012 : BitVec 32 := 0#32
  let v1692 : BitVec 32 := Scalar.addi v1691 c0_i32_1012
  let c256_i32_1013 : BitVec 32 := 256#32
  let v1693 : BitVec 32 := Scalar.muli v1692 c256_i32_1013
  v1693
def k0_off41 (k0_t2 : Fin k0_t2_loop.trips) (c0_i32_1012 : BitVec 32) : Fin 4 → Nat :=
  let c0_1014 : Index := 0#32
  let c1_1015 : Index := 1#32
  let c0_1016 : Index := 0#32
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_1011 : BitVec 32 := 4#32
  let v1691 : BitVec 32 := Scalar.muli v26 c4_i32_1011
  let v1692 : BitVec 32 := Scalar.addi v1691 c0_i32_1012
  let c256_i32_1013 : BitVec 32 := 256#32
  let v1693 : BitVec 32 := Scalar.muli v1692 c256_i32_1013
  let v1694 : BitVec 32 := v1693
  let v1696 : Index := Scalar.indexCast v1694
  ![0, 1, 0, v1696.toNat]
def k0_mult14 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_1017 : BitVec 32 := 4#32
  let v1706 : BitVec 32 := Scalar.muli v26 c4_i32_1017
  let c1_i32_1018 : BitVec 32 := 1#32
  let v1707 : BitVec 32 := Scalar.addi v1706 c1_i32_1018
  let c256_i32_1019 : BitVec 32 := 256#32
  let v1708 : BitVec 32 := Scalar.muli v1707 c256_i32_1019
  v1708
def k0_mult15 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_1023 : BitVec 32 := 4#32
  let v1721 : BitVec 32 := Scalar.muli v26 c4_i32_1023
  let c2_i32_1024 : BitVec 32 := 2#32
  let v1722 : BitVec 32 := Scalar.addi v1721 c2_i32_1024
  let c256_i32_1025 : BitVec 32 := 256#32
  let v1723 : BitVec 32 := Scalar.muli v1722 c256_i32_1025
  v1723
def k0_mult16 (k0_t2 : Fin k0_t2_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t2
  let c1_i32_12 : BitVec 32 := 1#32
  let v25 : BitVec 32 := Scalar.muli arg12 c1_i32_12
  let v26 : BitVec 32 := Scalar.addi c0_i32_13 v25
  let c4_i32_1029 : BitVec 32 := 4#32
  let v1736 : BitVec 32 := Scalar.muli v26 c4_i32_1029
  let c3_i32_1030 : BitVec 32 := 3#32
  let v1737 : BitVec 32 := Scalar.addi v1736 c3_i32_1030
  let c256_i32_1031 : BitVec 32 := 256#32
  let v1738 : BitVec 32 := Scalar.muli v1737 c256_i32_1031
  v1738
def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

@[reducible] def k0_t3_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off42 (k0_t3 : Fin k0_t3_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off43 (k0_t3 : Fin k0_t3_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off44 (k0_t3 : Fin k0_t3_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off45 (k0_t3 : Fin k0_t3_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off46 (k0_t3 : Fin k0_t3_loop.trips) : Fin 4 → Nat :=
  let c0_56 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v100 : Index := Scalar.indexCast v26
  let c256_57 : Index := 256#32
  let c0_58 : Index := 0#32
  ![0, v100.toNat, 256, 0]
def k0_off47 (k0_t3 : Fin k0_t3_loop.trips) : Fin 4 → Nat :=
  let c0_96 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v175 : Index := Scalar.indexCast v26
  let c0_97 : Index := 0#32
  let c0_98 : Index := 0#32
  ![0, v175.toNat, 0, 0]
def k0_off48 (k0_t3 : Fin k0_t3_loop.trips) : Fin 6 → Nat :=
  let c0_99 : Index := 0#32
  let c0_100 : Index := 0#32
  let c1_101 : Index := 1#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v178 : Index := Scalar.indexCast v26
  let c0_102 : Index := 0#32
  let c0_103 : Index := 0#32
  ![0, 0, 1, v178.toNat, 0, 0]
def k0_off49 (k0_t3 : Fin k0_t3_loop.trips) : Fin 4 → Nat :=
  let c0_162 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v283 : Index := Scalar.indexCast v26
  let c384_163 : Index := 384#32
  let c0_164 : Index := 0#32
  ![0, v283.toNat, 384, 0]
def k0_off50 (k0_t3 : Fin k0_t3_loop.trips) : Fin 4 → Nat :=
  let c0_181 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v318 : Index := Scalar.indexCast v26
  let c512 : Index := 512#32
  let c0_182 : Index := 0#32
  ![0, v318.toNat, 512, 0]
def k0_off51 (k0_t3 : Fin k0_t3_loop.trips) : Fin 4 → Nat :=
  let c0_199 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v353 : Index := Scalar.indexCast v26
  let c640 : Index := 640#32
  let c0_200 : Index := 0#32
  ![0, v353.toNat, 640, 0]
def k0_off52 (k0_t3 : Fin k0_t3_loop.trips) : Fin 4 → Nat :=
  let c0_217 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v388 : Index := Scalar.indexCast v26
  let c768 : Index := 768#32
  let c0_218 : Index := 0#32
  ![0, v388.toNat, 768, 0]
def k0_off53 (k0_t3 : Fin k0_t3_loop.trips) : Fin 4 → Nat :=
  let c0_235 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v423 : Index := Scalar.indexCast v26
  let c896 : Index := 896#32
  let c0_236 : Index := 0#32
  ![0, v423.toNat, 896, 0]
def k0_off54 (k0_t3 : Fin k0_t3_loop.trips) : Fin 4 → Nat :=
  let c0_253 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v458 : Index := Scalar.indexCast v26
  let c1024 : Index := 1024#32
  let c0_254 : Index := 0#32
  ![0, v458.toNat, 1024, 0]
def k0_off55 (k0_t3 : Fin k0_t3_loop.trips) : Fin 4 → Nat :=
  let c0_271 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v493 : Index := Scalar.indexCast v26
  let c1152 : Index := 1152#32
  let c0_272 : Index := 0#32
  ![0, v493.toNat, 1152, 0]
def k0_off56 (k0_t3 : Fin k0_t3_loop.trips) : Fin 4 → Nat :=
  let c0_289 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v528 : Index := Scalar.indexCast v26
  let c1280 : Index := 1280#32
  let c0_290 : Index := 0#32
  ![0, v528.toNat, 1280, 0]
def k0_off57 (k0_t3 : Fin k0_t3_loop.trips) (c0_i32_332 : BitVec 32) : Fin 5 → Nat :=
  let c0_333 : Index := 0#32
  let c0_334 : Index := 0#32
  let c0_335 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_331 : BitVec 32 := 4#32
  let v603 : BitVec 32 := Scalar.muli v26 c4_i32_331
  let v604 : BitVec 32 := Scalar.addi v603 c0_i32_332
  let v605 : Index := Scalar.indexCast v604
  let c0_336 : Index := 0#32
  ![0, 0, 0, v605.toNat, 0]
def k0_off58 (k0_t3 : Fin k0_t3_loop.trips) : Fin 4 → Nat :=
  let c0_527 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v899 : Index := Scalar.indexCast v26
  let c0_528 : Index := 0#32
  let c0_529 : Index := 0#32
  ![0, v899.toNat, 0, 0]
def k0_off59 (k0_t3 : Fin k0_t3_loop.trips) : Fin 4 → Nat :=
  let c0_531 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v903 : Index := Scalar.indexCast v26
  let c0_532 : Index := 0#32
  let c0_533 : Index := 0#32
  ![0, v903.toNat, 0, 0]
def k0_mult17 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_534 : BitVec 32 := 4#32
  let v912 : BitVec 32 := Scalar.muli v26 c4_i32_534
  let c0_i32_535 : BitVec 32 := 0#32
  let v913 : BitVec 32 := Scalar.addi v912 c0_i32_535
  let c256_i32 : BitVec 32 := 256#32
  let v914 : BitVec 32 := Scalar.muli v913 c256_i32
  v914
def k0_off60 (k0_t3 : Fin k0_t3_loop.trips) (c0_i32_535 : BitVec 32) : Fin 4 → Nat :=
  let c0_536 : Index := 0#32
  let c0_537 : Index := 0#32
  let c0_538 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_534 : BitVec 32 := 4#32
  let v912 : BitVec 32 := Scalar.muli v26 c4_i32_534
  let v913 : BitVec 32 := Scalar.addi v912 c0_i32_535
  let c256_i32 : BitVec 32 := 256#32
  let v914 : BitVec 32 := Scalar.muli v913 c256_i32
  let v915 : BitVec 32 := v914
  let v917 : Index := Scalar.indexCast v915
  ![0, 0, 0, v917.toNat]
def k0_mult18 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_539 : BitVec 32 := 4#32
  let v927 : BitVec 32 := Scalar.muli v26 c4_i32_539
  let c1_i32_540 : BitVec 32 := 1#32
  let v928 : BitVec 32 := Scalar.addi v927 c1_i32_540
  let c256_i32_541 : BitVec 32 := 256#32
  let v929 : BitVec 32 := Scalar.muli v928 c256_i32_541
  v929
def k0_mult19 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_545 : BitVec 32 := 4#32
  let v942 : BitVec 32 := Scalar.muli v26 c4_i32_545
  let c2_i32_546 : BitVec 32 := 2#32
  let v943 : BitVec 32 := Scalar.addi v942 c2_i32_546
  let c256_i32_547 : BitVec 32 := 256#32
  let v944 : BitVec 32 := Scalar.muli v943 c256_i32_547
  v944
def k0_mult20 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_551 : BitVec 32 := 4#32
  let v957 : BitVec 32 := Scalar.muli v26 c4_i32_551
  let c3_i32_552 : BitVec 32 := 3#32
  let v958 : BitVec 32 := Scalar.addi v957 c3_i32_552
  let c256_i32_553 : BitVec 32 := 256#32
  let v959 : BitVec 32 := Scalar.muli v958 c256_i32_553
  v959
def k0_off61 (k0_t3 : Fin k0_t3_loop.trips) (c0_i32_558 : BitVec 32) : Fin 5 → Nat :=
  let c0_559 : Index := 0#32
  let c0_560 : Index := 0#32
  let c1_561 : Index := 1#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_557 : BitVec 32 := 4#32
  let v966 : BitVec 32 := Scalar.muli v26 c4_i32_557
  let v967 : BitVec 32 := Scalar.addi v966 c0_i32_558
  let v968 : Index := Scalar.indexCast v967
  let c0_562 : Index := 0#32
  ![0, 0, 1, v968.toNat, 0]
def k0_off62 (k0_t3 : Fin k0_t3_loop.trips) : Fin 4 → Nat :=
  let c0_1137 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let v1910 : Index := Scalar.indexCast v26
  let c0_1138 : Index := 0#32
  let c0_1139 : Index := 0#32
  ![0, v1910.toNat, 0, 0]
def k0_mult21 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_1144 : BitVec 32 := 4#32
  let v1923 : BitVec 32 := Scalar.muli v26 c4_i32_1144
  let c0_i32_1145 : BitVec 32 := 0#32
  let v1924 : BitVec 32 := Scalar.addi v1923 c0_i32_1145
  let c256_i32_1146 : BitVec 32 := 256#32
  let v1925 : BitVec 32 := Scalar.muli v1924 c256_i32_1146
  v1925
def k0_off63 (k0_t3 : Fin k0_t3_loop.trips) (c0_i32_1145 : BitVec 32) : Fin 4 → Nat :=
  let c0_1147 : Index := 0#32
  let c1_1148 : Index := 1#32
  let c0_1149 : Index := 0#32
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_1144 : BitVec 32 := 4#32
  let v1923 : BitVec 32 := Scalar.muli v26 c4_i32_1144
  let v1924 : BitVec 32 := Scalar.addi v1923 c0_i32_1145
  let c256_i32_1146 : BitVec 32 := 256#32
  let v1925 : BitVec 32 := Scalar.muli v1924 c256_i32_1146
  let v1926 : BitVec 32 := v1925
  let v1928 : Index := Scalar.indexCast v1926
  ![0, 1, 0, v1928.toNat]
def k0_mult22 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_1150 : BitVec 32 := 4#32
  let v1938 : BitVec 32 := Scalar.muli v26 c4_i32_1150
  let c1_i32_1151 : BitVec 32 := 1#32
  let v1939 : BitVec 32 := Scalar.addi v1938 c1_i32_1151
  let c256_i32_1152 : BitVec 32 := 256#32
  let v1940 : BitVec 32 := Scalar.muli v1939 c256_i32_1152
  v1940
def k0_mult23 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_1156 : BitVec 32 := 4#32
  let v1953 : BitVec 32 := Scalar.muli v26 c4_i32_1156
  let c2_i32_1157 : BitVec 32 := 2#32
  let v1954 : BitVec 32 := Scalar.addi v1953 c2_i32_1157
  let c256_i32_1158 : BitVec 32 := 256#32
  let v1955 : BitVec 32 := Scalar.muli v1954 c256_i32_1158
  v1955
def k0_mult24 (k0_t3 : Fin k0_t3_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t3
  let c1_i32_12 : BitVec 32 := 1#32
  let v25 : BitVec 32 := Scalar.muli arg12 c1_i32_12
  let v26 : BitVec 32 := Scalar.addi c0_i32_13 v25
  let c4_i32_1162 : BitVec 32 := 4#32
  let v1968 : BitVec 32 := Scalar.muli v26 c4_i32_1162
  let c3_i32_1163 : BitVec 32 := 3#32
  let v1969 : BitVec 32 := Scalar.addi v1968 c3_i32_1163
  let c256_i32_1164 : BitVec 32 := 256#32
  let v1970 : BitVec 32 := Scalar.muli v1969 c256_i32_1164
  v1970
def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

@[reducible] def k0_t4_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off64 (k0_t4 : Fin k0_t4_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off65 (k0_t4 : Fin k0_t4_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off66 (k0_t4 : Fin k0_t4_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off67 (k0_t4 : Fin k0_t4_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off68 (k0_t4 : Fin k0_t4_loop.trips) : Fin 4 → Nat :=
  let c0_56 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v100 : Index := Scalar.indexCast v26
  let c256_57 : Index := 256#32
  let c0_58 : Index := 0#32
  ![0, v100.toNat, 256, 0]
def k0_off69 (k0_t4 : Fin k0_t4_loop.trips) : Fin 4 → Nat :=
  let c0_75 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v135 : Index := Scalar.indexCast v26
  let c384_76 : Index := 384#32
  let c0_77 : Index := 0#32
  ![0, v135.toNat, 384, 0]
def k0_off70 (k0_t4 : Fin k0_t4_loop.trips) : Fin 4 → Nat :=
  let c0_115 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v210 : Index := Scalar.indexCast v26
  let c0_116 : Index := 0#32
  let c0_117 : Index := 0#32
  ![0, v210.toNat, 0, 0]
def k0_off71 (k0_t4 : Fin k0_t4_loop.trips) : Fin 6 → Nat :=
  let c0_118 : Index := 0#32
  let c0_119 : Index := 0#32
  let c1_120 : Index := 1#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v213 : Index := Scalar.indexCast v26
  let c0_121 : Index := 0#32
  let c0_122 : Index := 0#32
  ![0, 0, 1, v213.toNat, 0, 0]
def k0_off72 (k0_t4 : Fin k0_t4_loop.trips) : Fin 4 → Nat :=
  let c0_200 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v353 : Index := Scalar.indexCast v26
  let c512 : Index := 512#32
  let c0_201 : Index := 0#32
  ![0, v353.toNat, 512, 0]
def k0_off73 (k0_t4 : Fin k0_t4_loop.trips) : Fin 4 → Nat :=
  let c0_218 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v388 : Index := Scalar.indexCast v26
  let c640 : Index := 640#32
  let c0_219 : Index := 0#32
  ![0, v388.toNat, 640, 0]
def k0_off74 (k0_t4 : Fin k0_t4_loop.trips) : Fin 4 → Nat :=
  let c0_236 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v423 : Index := Scalar.indexCast v26
  let c768 : Index := 768#32
  let c0_237 : Index := 0#32
  ![0, v423.toNat, 768, 0]
def k0_off75 (k0_t4 : Fin k0_t4_loop.trips) : Fin 4 → Nat :=
  let c0_254 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v458 : Index := Scalar.indexCast v26
  let c896 : Index := 896#32
  let c0_255 : Index := 0#32
  ![0, v458.toNat, 896, 0]
def k0_off76 (k0_t4 : Fin k0_t4_loop.trips) : Fin 4 → Nat :=
  let c0_272 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v493 : Index := Scalar.indexCast v26
  let c1024 : Index := 1024#32
  let c0_273 : Index := 0#32
  ![0, v493.toNat, 1024, 0]
def k0_off77 (k0_t4 : Fin k0_t4_loop.trips) : Fin 4 → Nat :=
  let c0_290 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v528 : Index := Scalar.indexCast v26
  let c1152 : Index := 1152#32
  let c0_291 : Index := 0#32
  ![0, v528.toNat, 1152, 0]
def k0_off78 (k0_t4 : Fin k0_t4_loop.trips) : Fin 4 → Nat :=
  let c0_308 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v563 : Index := Scalar.indexCast v26
  let c1280 : Index := 1280#32
  let c0_309 : Index := 0#32
  ![0, v563.toNat, 1280, 0]
def k0_off79 (k0_t4 : Fin k0_t4_loop.trips) : Fin 4 → Nat :=
  let c0_326 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v598 : Index := Scalar.indexCast v26
  let c1408 : Index := 1408#32
  let c0_327 : Index := 0#32
  ![0, v598.toNat, 1408, 0]
def k0_off80 (k0_t4 : Fin k0_t4_loop.trips) (c0_i32_369 : BitVec 32) : Fin 5 → Nat :=
  let c0_370 : Index := 0#32
  let c0_371 : Index := 0#32
  let c0_372 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_368 : BitVec 32 := 4#32
  let v673 : BitVec 32 := Scalar.muli v26 c4_i32_368
  let v674 : BitVec 32 := Scalar.addi v673 c0_i32_369
  let v675 : Index := Scalar.indexCast v674
  let c0_373 : Index := 0#32
  ![0, 0, 0, v675.toNat, 0]
def k0_off81 (k0_t4 : Fin k0_t4_loop.trips) : Fin 4 → Nat :=
  let c0_612 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v1050 : Index := Scalar.indexCast v26
  let c0_613 : Index := 0#32
  let c0_614 : Index := 0#32
  ![0, v1050.toNat, 0, 0]
def k0_off82 (k0_t4 : Fin k0_t4_loop.trips) : Fin 4 → Nat :=
  let c0_616 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v1054 : Index := Scalar.indexCast v26
  let c0_617 : Index := 0#32
  let c0_618 : Index := 0#32
  ![0, v1054.toNat, 0, 0]
def k0_mult25 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_619 : BitVec 32 := 4#32
  let v1063 : BitVec 32 := Scalar.muli v26 c4_i32_619
  let c0_i32_620 : BitVec 32 := 0#32
  let v1064 : BitVec 32 := Scalar.addi v1063 c0_i32_620
  let c256_i32 : BitVec 32 := 256#32
  let v1065 : BitVec 32 := Scalar.muli v1064 c256_i32
  v1065
def k0_off83 (k0_t4 : Fin k0_t4_loop.trips) (c0_i32_620 : BitVec 32) : Fin 4 → Nat :=
  let c0_621 : Index := 0#32
  let c0_622 : Index := 0#32
  let c0_623 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_619 : BitVec 32 := 4#32
  let v1063 : BitVec 32 := Scalar.muli v26 c4_i32_619
  let v1064 : BitVec 32 := Scalar.addi v1063 c0_i32_620
  let c256_i32 : BitVec 32 := 256#32
  let v1065 : BitVec 32 := Scalar.muli v1064 c256_i32
  let v1066 : BitVec 32 := v1065
  let v1068 : Index := Scalar.indexCast v1066
  ![0, 0, 0, v1068.toNat]
def k0_mult26 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_624 : BitVec 32 := 4#32
  let v1078 : BitVec 32 := Scalar.muli v26 c4_i32_624
  let c1_i32_625 : BitVec 32 := 1#32
  let v1079 : BitVec 32 := Scalar.addi v1078 c1_i32_625
  let c256_i32_626 : BitVec 32 := 256#32
  let v1080 : BitVec 32 := Scalar.muli v1079 c256_i32_626
  v1080
def k0_mult27 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_630 : BitVec 32 := 4#32
  let v1093 : BitVec 32 := Scalar.muli v26 c4_i32_630
  let c2_i32_631 : BitVec 32 := 2#32
  let v1094 : BitVec 32 := Scalar.addi v1093 c2_i32_631
  let c256_i32_632 : BitVec 32 := 256#32
  let v1095 : BitVec 32 := Scalar.muli v1094 c256_i32_632
  v1095
def k0_mult28 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_636 : BitVec 32 := 4#32
  let v1108 : BitVec 32 := Scalar.muli v26 c4_i32_636
  let c3_i32_637 : BitVec 32 := 3#32
  let v1109 : BitVec 32 := Scalar.addi v1108 c3_i32_637
  let c256_i32_638 : BitVec 32 := 256#32
  let v1110 : BitVec 32 := Scalar.muli v1109 c256_i32_638
  v1110
def k0_off84 (k0_t4 : Fin k0_t4_loop.trips) (c0_i32_643 : BitVec 32) : Fin 5 → Nat :=
  let c0_644 : Index := 0#32
  let c0_645 : Index := 0#32
  let c1_646 : Index := 1#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_642 : BitVec 32 := 4#32
  let v1117 : BitVec 32 := Scalar.muli v26 c4_i32_642
  let v1118 : BitVec 32 := Scalar.addi v1117 c0_i32_643
  let v1119 : Index := Scalar.indexCast v1118
  let c0_647 : Index := 0#32
  ![0, 0, 1, v1119.toNat, 0]
def k0_off85 (k0_t4 : Fin k0_t4_loop.trips) : Fin 4 → Nat :=
  let c0_1270 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let v2142 : Index := Scalar.indexCast v26
  let c0_1271 : Index := 0#32
  let c0_1272 : Index := 0#32
  ![0, v2142.toNat, 0, 0]
def k0_mult29 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_1277 : BitVec 32 := 4#32
  let v2155 : BitVec 32 := Scalar.muli v26 c4_i32_1277
  let c0_i32_1278 : BitVec 32 := 0#32
  let v2156 : BitVec 32 := Scalar.addi v2155 c0_i32_1278
  let c256_i32_1279 : BitVec 32 := 256#32
  let v2157 : BitVec 32 := Scalar.muli v2156 c256_i32_1279
  v2157
def k0_off86 (k0_t4 : Fin k0_t4_loop.trips) (c0_i32_1278 : BitVec 32) : Fin 4 → Nat :=
  let c0_1280 : Index := 0#32
  let c1_1281 : Index := 1#32
  let c0_1282 : Index := 0#32
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_1277 : BitVec 32 := 4#32
  let v2155 : BitVec 32 := Scalar.muli v26 c4_i32_1277
  let v2156 : BitVec 32 := Scalar.addi v2155 c0_i32_1278
  let c256_i32_1279 : BitVec 32 := 256#32
  let v2157 : BitVec 32 := Scalar.muli v2156 c256_i32_1279
  let v2158 : BitVec 32 := v2157
  let v2160 : Index := Scalar.indexCast v2158
  ![0, 1, 0, v2160.toNat]
def k0_mult30 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_1283 : BitVec 32 := 4#32
  let v2170 : BitVec 32 := Scalar.muli v26 c4_i32_1283
  let c1_i32_1284 : BitVec 32 := 1#32
  let v2171 : BitVec 32 := Scalar.addi v2170 c1_i32_1284
  let c256_i32_1285 : BitVec 32 := 256#32
  let v2172 : BitVec 32 := Scalar.muli v2171 c256_i32_1285
  v2172
def k0_mult31 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_1289 : BitVec 32 := 4#32
  let v2185 : BitVec 32 := Scalar.muli v26 c4_i32_1289
  let c2_i32_1290 : BitVec 32 := 2#32
  let v2186 : BitVec 32 := Scalar.addi v2185 c2_i32_1290
  let c256_i32_1291 : BitVec 32 := 256#32
  let v2187 : BitVec 32 := Scalar.muli v2186 c256_i32_1291
  v2187
def k0_mult32 (k0_t4 : Fin k0_t4_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t4
  let c1_i32_12 : BitVec 32 := 1#32
  let v25 : BitVec 32 := Scalar.muli arg12 c1_i32_12
  let v26 : BitVec 32 := Scalar.addi c0_i32_13 v25
  let c4_i32_1295 : BitVec 32 := 4#32
  let v2200 : BitVec 32 := Scalar.muli v26 c4_i32_1295
  let c3_i32_1296 : BitVec 32 := 3#32
  let v2201 : BitVec 32 := Scalar.addi v2200 c3_i32_1296
  let c256_i32_1297 : BitVec 32 := 256#32
  let v2202 : BitVec 32 := Scalar.muli v2201 c256_i32_1297
  v2202
def k0_cond5 (i : grid0.Coords) : BitVec 1 :=
  let arg1 : BitVec 32 := BitVec.ofNat 32 (i 1).val
  let c4_i32 : BitVec 32 := 4#32
  let v12 : BitVec 1 := Scalar.cmpi .eq arg1 c4_i32
  let v13 : BitVec 32 := Scalar.extui v12
  let c0_i32_4 : BitVec 32 := 0#32
  let v14 : BitVec 1 := Scalar.cmpi .ne v13 c0_i32_4
  v14

@[reducible] def k0_t5_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off87 (k0_t5 : Fin k0_t5_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off88 (k0_t5 : Fin k0_t5_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off89 (k0_t5 : Fin k0_t5_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off90 (k0_t5 : Fin k0_t5_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off91 (k0_t5 : Fin k0_t5_loop.trips) : Fin 4 → Nat :=
  let c0_56 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v100 : Index := Scalar.indexCast v26
  let c256_57 : Index := 256#32
  let c0_58 : Index := 0#32
  ![0, v100.toNat, 256, 0]
def k0_off92 (k0_t5 : Fin k0_t5_loop.trips) : Fin 4 → Nat :=
  let c0_75 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v135 : Index := Scalar.indexCast v26
  let c384_76 : Index := 384#32
  let c0_77 : Index := 0#32
  ![0, v135.toNat, 384, 0]
def k0_off93 (k0_t5 : Fin k0_t5_loop.trips) : Fin 4 → Nat :=
  let c0_94 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v170 : Index := Scalar.indexCast v26
  let c512 : Index := 512#32
  let c0_95 : Index := 0#32
  ![0, v170.toNat, 512, 0]
def k0_off94 (k0_t5 : Fin k0_t5_loop.trips) : Fin 4 → Nat :=
  let c0_133 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v245 : Index := Scalar.indexCast v26
  let c0_134 : Index := 0#32
  let c0_135 : Index := 0#32
  ![0, v245.toNat, 0, 0]
def k0_off95 (k0_t5 : Fin k0_t5_loop.trips) : Fin 6 → Nat :=
  let c0_136 : Index := 0#32
  let c0_137 : Index := 0#32
  let c1_138 : Index := 1#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v248 : Index := Scalar.indexCast v26
  let c0_139 : Index := 0#32
  let c0_140 : Index := 0#32
  ![0, 0, 1, v248.toNat, 0, 0]
def k0_off96 (k0_t5 : Fin k0_t5_loop.trips) : Fin 4 → Nat :=
  let c0_237 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v423 : Index := Scalar.indexCast v26
  let c640 : Index := 640#32
  let c0_238 : Index := 0#32
  ![0, v423.toNat, 640, 0]
def k0_off97 (k0_t5 : Fin k0_t5_loop.trips) : Fin 4 → Nat :=
  let c0_255 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v458 : Index := Scalar.indexCast v26
  let c768 : Index := 768#32
  let c0_256 : Index := 0#32
  ![0, v458.toNat, 768, 0]
def k0_off98 (k0_t5 : Fin k0_t5_loop.trips) : Fin 4 → Nat :=
  let c0_273 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v493 : Index := Scalar.indexCast v26
  let c896 : Index := 896#32
  let c0_274 : Index := 0#32
  ![0, v493.toNat, 896, 0]
def k0_off99 (k0_t5 : Fin k0_t5_loop.trips) : Fin 4 → Nat :=
  let c0_291 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v528 : Index := Scalar.indexCast v26
  let c1024 : Index := 1024#32
  let c0_292 : Index := 0#32
  ![0, v528.toNat, 1024, 0]
def k0_off100 (k0_t5 : Fin k0_t5_loop.trips) : Fin 4 → Nat :=
  let c0_309 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v563 : Index := Scalar.indexCast v26
  let c1152 : Index := 1152#32
  let c0_310 : Index := 0#32
  ![0, v563.toNat, 1152, 0]
def k0_off101 (k0_t5 : Fin k0_t5_loop.trips) : Fin 4 → Nat :=
  let c0_327 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v598 : Index := Scalar.indexCast v26
  let c1280 : Index := 1280#32
  let c0_328 : Index := 0#32
  ![0, v598.toNat, 1280, 0]
def k0_off102 (k0_t5 : Fin k0_t5_loop.trips) : Fin 4 → Nat :=
  let c0_345 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v633 : Index := Scalar.indexCast v26
  let c1408 : Index := 1408#32
  let c0_346 : Index := 0#32
  ![0, v633.toNat, 1408, 0]
def k0_off103 (k0_t5 : Fin k0_t5_loop.trips) : Fin 4 → Nat :=
  let c0_363 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v668 : Index := Scalar.indexCast v26
  let c1536 : Index := 1536#32
  let c0_364 : Index := 0#32
  ![0, v668.toNat, 1536, 0]
def k0_off104 (k0_t5 : Fin k0_t5_loop.trips) (c0_i32_406 : BitVec 32) : Fin 5 → Nat :=
  let c0_407 : Index := 0#32
  let c0_408 : Index := 0#32
  let c0_409 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_405 : BitVec 32 := 4#32
  let v743 : BitVec 32 := Scalar.muli v26 c4_i32_405
  let v744 : BitVec 32 := Scalar.addi v743 c0_i32_406
  let v745 : Index := Scalar.indexCast v744
  let c0_410 : Index := 0#32
  ![0, 0, 0, v745.toNat, 0]
def k0_off105 (k0_t5 : Fin k0_t5_loop.trips) : Fin 4 → Nat :=
  let c0_697 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v1201 : Index := Scalar.indexCast v26
  let c0_698 : Index := 0#32
  let c0_699 : Index := 0#32
  ![0, v1201.toNat, 0, 0]
def k0_off106 (k0_t5 : Fin k0_t5_loop.trips) : Fin 4 → Nat :=
  let c0_701 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v1205 : Index := Scalar.indexCast v26
  let c0_702 : Index := 0#32
  let c0_703 : Index := 0#32
  ![0, v1205.toNat, 0, 0]
def k0_mult33 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_704 : BitVec 32 := 4#32
  let v1214 : BitVec 32 := Scalar.muli v26 c4_i32_704
  let c0_i32_705 : BitVec 32 := 0#32
  let v1215 : BitVec 32 := Scalar.addi v1214 c0_i32_705
  let c256_i32 : BitVec 32 := 256#32
  let v1216 : BitVec 32 := Scalar.muli v1215 c256_i32
  v1216
def k0_off107 (k0_t5 : Fin k0_t5_loop.trips) (c0_i32_705 : BitVec 32) : Fin 4 → Nat :=
  let c0_706 : Index := 0#32
  let c0_707 : Index := 0#32
  let c0_708 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_704 : BitVec 32 := 4#32
  let v1214 : BitVec 32 := Scalar.muli v26 c4_i32_704
  let v1215 : BitVec 32 := Scalar.addi v1214 c0_i32_705
  let c256_i32 : BitVec 32 := 256#32
  let v1216 : BitVec 32 := Scalar.muli v1215 c256_i32
  let v1217 : BitVec 32 := v1216
  let v1219 : Index := Scalar.indexCast v1217
  ![0, 0, 0, v1219.toNat]
def k0_mult34 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_709 : BitVec 32 := 4#32
  let v1229 : BitVec 32 := Scalar.muli v26 c4_i32_709
  let c1_i32_710 : BitVec 32 := 1#32
  let v1230 : BitVec 32 := Scalar.addi v1229 c1_i32_710
  let c256_i32_711 : BitVec 32 := 256#32
  let v1231 : BitVec 32 := Scalar.muli v1230 c256_i32_711
  v1231
def k0_mult35 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_715 : BitVec 32 := 4#32
  let v1244 : BitVec 32 := Scalar.muli v26 c4_i32_715
  let c2_i32_716 : BitVec 32 := 2#32
  let v1245 : BitVec 32 := Scalar.addi v1244 c2_i32_716
  let c256_i32_717 : BitVec 32 := 256#32
  let v1246 : BitVec 32 := Scalar.muli v1245 c256_i32_717
  v1246
def k0_mult36 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_721 : BitVec 32 := 4#32
  let v1259 : BitVec 32 := Scalar.muli v26 c4_i32_721
  let c3_i32_722 : BitVec 32 := 3#32
  let v1260 : BitVec 32 := Scalar.addi v1259 c3_i32_722
  let c256_i32_723 : BitVec 32 := 256#32
  let v1261 : BitVec 32 := Scalar.muli v1260 c256_i32_723
  v1261
def k0_off108 (k0_t5 : Fin k0_t5_loop.trips) (c0_i32_728 : BitVec 32) : Fin 5 → Nat :=
  let c0_729 : Index := 0#32
  let c0_730 : Index := 0#32
  let c1_731 : Index := 1#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_727 : BitVec 32 := 4#32
  let v1268 : BitVec 32 := Scalar.muli v26 c4_i32_727
  let v1269 : BitVec 32 := Scalar.addi v1268 c0_i32_728
  let v1270 : Index := Scalar.indexCast v1269
  let c0_732 : Index := 0#32
  ![0, 0, 1, v1270.toNat, 0]
def k0_off109 (k0_t5 : Fin k0_t5_loop.trips) : Fin 4 → Nat :=
  let c0_1403 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let v2374 : Index := Scalar.indexCast v26
  let c0_1404 : Index := 0#32
  let c0_1405 : Index := 0#32
  ![0, v2374.toNat, 0, 0]
def k0_mult37 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_1410 : BitVec 32 := 4#32
  let v2387 : BitVec 32 := Scalar.muli v26 c4_i32_1410
  let c0_i32_1411 : BitVec 32 := 0#32
  let v2388 : BitVec 32 := Scalar.addi v2387 c0_i32_1411
  let c256_i32_1412 : BitVec 32 := 256#32
  let v2389 : BitVec 32 := Scalar.muli v2388 c256_i32_1412
  v2389
def k0_off110 (k0_t5 : Fin k0_t5_loop.trips) (c0_i32_1411 : BitVec 32) : Fin 4 → Nat :=
  let c0_1413 : Index := 0#32
  let c1_1414 : Index := 1#32
  let c0_1415 : Index := 0#32
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_1410 : BitVec 32 := 4#32
  let v2387 : BitVec 32 := Scalar.muli v26 c4_i32_1410
  let v2388 : BitVec 32 := Scalar.addi v2387 c0_i32_1411
  let c256_i32_1412 : BitVec 32 := 256#32
  let v2389 : BitVec 32 := Scalar.muli v2388 c256_i32_1412
  let v2390 : BitVec 32 := v2389
  let v2392 : Index := Scalar.indexCast v2390
  ![0, 1, 0, v2392.toNat]
def k0_mult38 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_1416 : BitVec 32 := 4#32
  let v2402 : BitVec 32 := Scalar.muli v26 c4_i32_1416
  let c1_i32_1417 : BitVec 32 := 1#32
  let v2403 : BitVec 32 := Scalar.addi v2402 c1_i32_1417
  let c256_i32_1418 : BitVec 32 := 256#32
  let v2404 : BitVec 32 := Scalar.muli v2403 c256_i32_1418
  v2404
def k0_mult39 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_1422 : BitVec 32 := 4#32
  let v2417 : BitVec 32 := Scalar.muli v26 c4_i32_1422
  let c2_i32_1423 : BitVec 32 := 2#32
  let v2418 : BitVec 32 := Scalar.addi v2417 c2_i32_1423
  let c256_i32_1424 : BitVec 32 := 256#32
  let v2419 : BitVec 32 := Scalar.muli v2418 c256_i32_1424
  v2419
def k0_mult40 (k0_t5 : Fin k0_t5_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t5
  let c1_i32_12 : BitVec 32 := 1#32
  let v25 : BitVec 32 := Scalar.muli arg12 c1_i32_12
  let v26 : BitVec 32 := Scalar.addi c0_i32_13 v25
  let c4_i32_1428 : BitVec 32 := 4#32
  let v2432 : BitVec 32 := Scalar.muli v26 c4_i32_1428
  let c3_i32_1429 : BitVec 32 := 3#32
  let v2433 : BitVec 32 := Scalar.addi v2432 c3_i32_1429
  let c256_i32_1430 : BitVec 32 := 256#32
  let v2434 : BitVec 32 := Scalar.muli v2433 c256_i32_1430
  v2434
def k0_cond6 (i : grid0.Coords) : BitVec 1 :=
  let arg1 : BitVec 32 := BitVec.ofNat 32 (i 1).val
  let c5_i32 : BitVec 32 := 5#32
  let v15 : BitVec 1 := Scalar.cmpi .eq arg1 c5_i32
  let v16 : BitVec 32 := Scalar.extui v15
  let c0_i32_5 : BitVec 32 := 0#32
  let v17 : BitVec 1 := Scalar.cmpi .ne v16 c0_i32_5
  v17

@[reducible] def k0_t6_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off111 (k0_t6 : Fin k0_t6_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off112 (k0_t6 : Fin k0_t6_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off113 (k0_t6 : Fin k0_t6_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off114 (k0_t6 : Fin k0_t6_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off115 (k0_t6 : Fin k0_t6_loop.trips) : Fin 4 → Nat :=
  let c0_56 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v100 : Index := Scalar.indexCast v26
  let c256_57 : Index := 256#32
  let c0_58 : Index := 0#32
  ![0, v100.toNat, 256, 0]
def k0_off116 (k0_t6 : Fin k0_t6_loop.trips) : Fin 4 → Nat :=
  let c0_75 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v135 : Index := Scalar.indexCast v26
  let c384_76 : Index := 384#32
  let c0_77 : Index := 0#32
  ![0, v135.toNat, 384, 0]
def k0_off117 (k0_t6 : Fin k0_t6_loop.trips) : Fin 4 → Nat :=
  let c0_94 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v170 : Index := Scalar.indexCast v26
  let c512 : Index := 512#32
  let c0_95 : Index := 0#32
  ![0, v170.toNat, 512, 0]
def k0_off118 (k0_t6 : Fin k0_t6_loop.trips) : Fin 4 → Nat :=
  let c0_112 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v205 : Index := Scalar.indexCast v26
  let c640 : Index := 640#32
  let c0_113 : Index := 0#32
  ![0, v205.toNat, 640, 0]
def k0_off119 (k0_t6 : Fin k0_t6_loop.trips) : Fin 4 → Nat :=
  let c0_151 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v280 : Index := Scalar.indexCast v26
  let c0_152 : Index := 0#32
  let c0_153 : Index := 0#32
  ![0, v280.toNat, 0, 0]
def k0_off120 (k0_t6 : Fin k0_t6_loop.trips) : Fin 6 → Nat :=
  let c0_154 : Index := 0#32
  let c0_155 : Index := 0#32
  let c1_156 : Index := 1#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v283 : Index := Scalar.indexCast v26
  let c0_157 : Index := 0#32
  let c0_158 : Index := 0#32
  ![0, 0, 1, v283.toNat, 0, 0]
def k0_off121 (k0_t6 : Fin k0_t6_loop.trips) : Fin 4 → Nat :=
  let c0_274 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v493 : Index := Scalar.indexCast v26
  let c768 : Index := 768#32
  let c0_275 : Index := 0#32
  ![0, v493.toNat, 768, 0]
def k0_off122 (k0_t6 : Fin k0_t6_loop.trips) : Fin 4 → Nat :=
  let c0_292 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v528 : Index := Scalar.indexCast v26
  let c896 : Index := 896#32
  let c0_293 : Index := 0#32
  ![0, v528.toNat, 896, 0]
def k0_off123 (k0_t6 : Fin k0_t6_loop.trips) : Fin 4 → Nat :=
  let c0_310 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v563 : Index := Scalar.indexCast v26
  let c1024 : Index := 1024#32
  let c0_311 : Index := 0#32
  ![0, v563.toNat, 1024, 0]
def k0_off124 (k0_t6 : Fin k0_t6_loop.trips) : Fin 4 → Nat :=
  let c0_328 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v598 : Index := Scalar.indexCast v26
  let c1152 : Index := 1152#32
  let c0_329 : Index := 0#32
  ![0, v598.toNat, 1152, 0]
def k0_off125 (k0_t6 : Fin k0_t6_loop.trips) : Fin 4 → Nat :=
  let c0_346 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v633 : Index := Scalar.indexCast v26
  let c1280 : Index := 1280#32
  let c0_347 : Index := 0#32
  ![0, v633.toNat, 1280, 0]
def k0_off126 (k0_t6 : Fin k0_t6_loop.trips) : Fin 4 → Nat :=
  let c0_364 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v668 : Index := Scalar.indexCast v26
  let c1408 : Index := 1408#32
  let c0_365 : Index := 0#32
  ![0, v668.toNat, 1408, 0]
def k0_off127 (k0_t6 : Fin k0_t6_loop.trips) : Fin 4 → Nat :=
  let c0_382 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v703 : Index := Scalar.indexCast v26
  let c1536 : Index := 1536#32
  let c0_383 : Index := 0#32
  ![0, v703.toNat, 1536, 0]
def k0_off128 (k0_t6 : Fin k0_t6_loop.trips) : Fin 4 → Nat :=
  let c0_400 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v738 : Index := Scalar.indexCast v26
  let c1664 : Index := 1664#32
  let c0_401 : Index := 0#32
  ![0, v738.toNat, 1664, 0]
def k0_off129 (k0_t6 : Fin k0_t6_loop.trips) (c0_i32_443 : BitVec 32) : Fin 5 → Nat :=
  let c0_444 : Index := 0#32
  let c0_445 : Index := 0#32
  let c0_446 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_442 : BitVec 32 := 4#32
  let v813 : BitVec 32 := Scalar.muli v26 c4_i32_442
  let v814 : BitVec 32 := Scalar.addi v813 c0_i32_443
  let v815 : Index := Scalar.indexCast v814
  let c0_447 : Index := 0#32
  ![0, 0, 0, v815.toNat, 0]
def k0_off130 (k0_t6 : Fin k0_t6_loop.trips) : Fin 4 → Nat :=
  let c0_782 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v1352 : Index := Scalar.indexCast v26
  let c0_783 : Index := 0#32
  let c0_784 : Index := 0#32
  ![0, v1352.toNat, 0, 0]
def k0_off131 (k0_t6 : Fin k0_t6_loop.trips) : Fin 4 → Nat :=
  let c0_786 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v1356 : Index := Scalar.indexCast v26
  let c0_787 : Index := 0#32
  let c0_788 : Index := 0#32
  ![0, v1356.toNat, 0, 0]
def k0_mult41 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_789 : BitVec 32 := 4#32
  let v1365 : BitVec 32 := Scalar.muli v26 c4_i32_789
  let c0_i32_790 : BitVec 32 := 0#32
  let v1366 : BitVec 32 := Scalar.addi v1365 c0_i32_790
  let c256_i32 : BitVec 32 := 256#32
  let v1367 : BitVec 32 := Scalar.muli v1366 c256_i32
  v1367
def k0_off132 (k0_t6 : Fin k0_t6_loop.trips) (c0_i32_790 : BitVec 32) : Fin 4 → Nat :=
  let c0_791 : Index := 0#32
  let c0_792 : Index := 0#32
  let c0_793 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_789 : BitVec 32 := 4#32
  let v1365 : BitVec 32 := Scalar.muli v26 c4_i32_789
  let v1366 : BitVec 32 := Scalar.addi v1365 c0_i32_790
  let c256_i32 : BitVec 32 := 256#32
  let v1367 : BitVec 32 := Scalar.muli v1366 c256_i32
  let v1368 : BitVec 32 := v1367
  let v1370 : Index := Scalar.indexCast v1368
  ![0, 0, 0, v1370.toNat]
def k0_mult42 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_794 : BitVec 32 := 4#32
  let v1380 : BitVec 32 := Scalar.muli v26 c4_i32_794
  let c1_i32_795 : BitVec 32 := 1#32
  let v1381 : BitVec 32 := Scalar.addi v1380 c1_i32_795
  let c256_i32_796 : BitVec 32 := 256#32
  let v1382 : BitVec 32 := Scalar.muli v1381 c256_i32_796
  v1382
def k0_mult43 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_800 : BitVec 32 := 4#32
  let v1395 : BitVec 32 := Scalar.muli v26 c4_i32_800
  let c2_i32_801 : BitVec 32 := 2#32
  let v1396 : BitVec 32 := Scalar.addi v1395 c2_i32_801
  let c256_i32_802 : BitVec 32 := 256#32
  let v1397 : BitVec 32 := Scalar.muli v1396 c256_i32_802
  v1397
def k0_mult44 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_806 : BitVec 32 := 4#32
  let v1410 : BitVec 32 := Scalar.muli v26 c4_i32_806
  let c3_i32_807 : BitVec 32 := 3#32
  let v1411 : BitVec 32 := Scalar.addi v1410 c3_i32_807
  let c256_i32_808 : BitVec 32 := 256#32
  let v1412 : BitVec 32 := Scalar.muli v1411 c256_i32_808
  v1412
def k0_off133 (k0_t6 : Fin k0_t6_loop.trips) (c0_i32_813 : BitVec 32) : Fin 5 → Nat :=
  let c0_814 : Index := 0#32
  let c0_815 : Index := 0#32
  let c1_816 : Index := 1#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_812 : BitVec 32 := 4#32
  let v1419 : BitVec 32 := Scalar.muli v26 c4_i32_812
  let v1420 : BitVec 32 := Scalar.addi v1419 c0_i32_813
  let v1421 : Index := Scalar.indexCast v1420
  let c0_817 : Index := 0#32
  ![0, 0, 1, v1421.toNat, 0]
def k0_off134 (k0_t6 : Fin k0_t6_loop.trips) : Fin 4 → Nat :=
  let c0_1536 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let v2606 : Index := Scalar.indexCast v26
  let c0_1537 : Index := 0#32
  let c0_1538 : Index := 0#32
  ![0, v2606.toNat, 0, 0]
def k0_mult45 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_1543 : BitVec 32 := 4#32
  let v2619 : BitVec 32 := Scalar.muli v26 c4_i32_1543
  let c0_i32_1544 : BitVec 32 := 0#32
  let v2620 : BitVec 32 := Scalar.addi v2619 c0_i32_1544
  let c256_i32_1545 : BitVec 32 := 256#32
  let v2621 : BitVec 32 := Scalar.muli v2620 c256_i32_1545
  v2621
def k0_off135 (k0_t6 : Fin k0_t6_loop.trips) (c0_i32_1544 : BitVec 32) : Fin 4 → Nat :=
  let c0_1546 : Index := 0#32
  let c1_1547 : Index := 1#32
  let c0_1548 : Index := 0#32
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_1543 : BitVec 32 := 4#32
  let v2619 : BitVec 32 := Scalar.muli v26 c4_i32_1543
  let v2620 : BitVec 32 := Scalar.addi v2619 c0_i32_1544
  let c256_i32_1545 : BitVec 32 := 256#32
  let v2621 : BitVec 32 := Scalar.muli v2620 c256_i32_1545
  let v2622 : BitVec 32 := v2621
  let v2624 : Index := Scalar.indexCast v2622
  ![0, 1, 0, v2624.toNat]
def k0_mult46 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_1549 : BitVec 32 := 4#32
  let v2634 : BitVec 32 := Scalar.muli v26 c4_i32_1549
  let c1_i32_1550 : BitVec 32 := 1#32
  let v2635 : BitVec 32 := Scalar.addi v2634 c1_i32_1550
  let c256_i32_1551 : BitVec 32 := 256#32
  let v2636 : BitVec 32 := Scalar.muli v2635 c256_i32_1551
  v2636
def k0_mult47 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_1555 : BitVec 32 := 4#32
  let v2649 : BitVec 32 := Scalar.muli v26 c4_i32_1555
  let c2_i32_1556 : BitVec 32 := 2#32
  let v2650 : BitVec 32 := Scalar.addi v2649 c2_i32_1556
  let c256_i32_1557 : BitVec 32 := 256#32
  let v2651 : BitVec 32 := Scalar.muli v2650 c256_i32_1557
  v2651
def k0_mult48 (k0_t6 : Fin k0_t6_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t6
  let c1_i32_12 : BitVec 32 := 1#32
  let v25 : BitVec 32 := Scalar.muli arg12 c1_i32_12
  let v26 : BitVec 32 := Scalar.addi c0_i32_13 v25
  let c4_i32_1561 : BitVec 32 := 4#32
  let v2664 : BitVec 32 := Scalar.muli v26 c4_i32_1561
  let c3_i32_1562 : BitVec 32 := 3#32
  let v2665 : BitVec 32 := Scalar.addi v2664 c3_i32_1562
  let c256_i32_1563 : BitVec 32 := 256#32
  let v2666 : BitVec 32 := Scalar.muli v2665 c256_i32_1563
  v2666
def k0_cond7 (i : grid0.Coords) : BitVec 1 :=
  let arg1 : BitVec 32 := BitVec.ofNat 32 (i 1).val
  let c6_i32 : BitVec 32 := 6#32
  let v18 : BitVec 1 := Scalar.cmpi .eq arg1 c6_i32
  let v19 : BitVec 32 := Scalar.extui v18
  let c0_i32_6 : BitVec 32 := 0#32
  let v20 : BitVec 1 := Scalar.cmpi .ne v19 c0_i32_6
  v20

@[reducible] def k0_t7_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off136 (k0_t7 : Fin k0_t7_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off137 (k0_t7 : Fin k0_t7_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off138 (k0_t7 : Fin k0_t7_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off139 (k0_t7 : Fin k0_t7_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off140 (k0_t7 : Fin k0_t7_loop.trips) : Fin 4 → Nat :=
  let c0_56 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v100 : Index := Scalar.indexCast v26
  let c256_57 : Index := 256#32
  let c0_58 : Index := 0#32
  ![0, v100.toNat, 256, 0]
def k0_off141 (k0_t7 : Fin k0_t7_loop.trips) : Fin 4 → Nat :=
  let c0_75 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v135 : Index := Scalar.indexCast v26
  let c384_76 : Index := 384#32
  let c0_77 : Index := 0#32
  ![0, v135.toNat, 384, 0]
def k0_off142 (k0_t7 : Fin k0_t7_loop.trips) : Fin 4 → Nat :=
  let c0_94 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v170 : Index := Scalar.indexCast v26
  let c512 : Index := 512#32
  let c0_95 : Index := 0#32
  ![0, v170.toNat, 512, 0]
def k0_off143 (k0_t7 : Fin k0_t7_loop.trips) : Fin 4 → Nat :=
  let c0_112 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v205 : Index := Scalar.indexCast v26
  let c640 : Index := 640#32
  let c0_113 : Index := 0#32
  ![0, v205.toNat, 640, 0]
def k0_off144 (k0_t7 : Fin k0_t7_loop.trips) : Fin 4 → Nat :=
  let c0_130 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v240 : Index := Scalar.indexCast v26
  let c768 : Index := 768#32
  let c0_131 : Index := 0#32
  ![0, v240.toNat, 768, 0]
def k0_off145 (k0_t7 : Fin k0_t7_loop.trips) : Fin 4 → Nat :=
  let c0_169 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v315 : Index := Scalar.indexCast v26
  let c0_170 : Index := 0#32
  let c0_171 : Index := 0#32
  ![0, v315.toNat, 0, 0]
def k0_off146 (k0_t7 : Fin k0_t7_loop.trips) : Fin 6 → Nat :=
  let c0_172 : Index := 0#32
  let c0_173 : Index := 0#32
  let c1_174 : Index := 1#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v318 : Index := Scalar.indexCast v26
  let c0_175 : Index := 0#32
  let c0_176 : Index := 0#32
  ![0, 0, 1, v318.toNat, 0, 0]
def k0_off147 (k0_t7 : Fin k0_t7_loop.trips) : Fin 4 → Nat :=
  let c0_311 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v563 : Index := Scalar.indexCast v26
  let c896 : Index := 896#32
  let c0_312 : Index := 0#32
  ![0, v563.toNat, 896, 0]
def k0_off148 (k0_t7 : Fin k0_t7_loop.trips) : Fin 4 → Nat :=
  let c0_329 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v598 : Index := Scalar.indexCast v26
  let c1024 : Index := 1024#32
  let c0_330 : Index := 0#32
  ![0, v598.toNat, 1024, 0]
def k0_off149 (k0_t7 : Fin k0_t7_loop.trips) : Fin 4 → Nat :=
  let c0_347 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v633 : Index := Scalar.indexCast v26
  let c1152 : Index := 1152#32
  let c0_348 : Index := 0#32
  ![0, v633.toNat, 1152, 0]
def k0_off150 (k0_t7 : Fin k0_t7_loop.trips) : Fin 4 → Nat :=
  let c0_365 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v668 : Index := Scalar.indexCast v26
  let c1280 : Index := 1280#32
  let c0_366 : Index := 0#32
  ![0, v668.toNat, 1280, 0]
def k0_off151 (k0_t7 : Fin k0_t7_loop.trips) : Fin 4 → Nat :=
  let c0_383 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v703 : Index := Scalar.indexCast v26
  let c1408 : Index := 1408#32
  let c0_384 : Index := 0#32
  ![0, v703.toNat, 1408, 0]
def k0_off152 (k0_t7 : Fin k0_t7_loop.trips) : Fin 4 → Nat :=
  let c0_401 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v738 : Index := Scalar.indexCast v26
  let c1536 : Index := 1536#32
  let c0_402 : Index := 0#32
  ![0, v738.toNat, 1536, 0]
def k0_off153 (k0_t7 : Fin k0_t7_loop.trips) : Fin 4 → Nat :=
  let c0_419 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v773 : Index := Scalar.indexCast v26
  let c1664 : Index := 1664#32
  let c0_420 : Index := 0#32
  ![0, v773.toNat, 1664, 0]
def k0_off154 (k0_t7 : Fin k0_t7_loop.trips) : Fin 4 → Nat :=
  let c0_437 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v808 : Index := Scalar.indexCast v26
  let c1792 : Index := 1792#32
  let c0_438 : Index := 0#32
  ![0, v808.toNat, 1792, 0]
def k0_off155 (k0_t7 : Fin k0_t7_loop.trips) (c0_i32_480 : BitVec 32) : Fin 5 → Nat :=
  let c0_481 : Index := 0#32
  let c0_482 : Index := 0#32
  let c0_483 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_479 : BitVec 32 := 4#32
  let v883 : BitVec 32 := Scalar.muli v26 c4_i32_479
  let v884 : BitVec 32 := Scalar.addi v883 c0_i32_480
  let v885 : Index := Scalar.indexCast v884
  let c0_484 : Index := 0#32
  ![0, 0, 0, v885.toNat, 0]
def k0_off156 (k0_t7 : Fin k0_t7_loop.trips) : Fin 4 → Nat :=
  let c0_867 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v1503 : Index := Scalar.indexCast v26
  let c0_868 : Index := 0#32
  let c0_869 : Index := 0#32
  ![0, v1503.toNat, 0, 0]
def k0_off157 (k0_t7 : Fin k0_t7_loop.trips) : Fin 4 → Nat :=
  let c0_871 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v1507 : Index := Scalar.indexCast v26
  let c0_872 : Index := 0#32
  let c0_873 : Index := 0#32
  ![0, v1507.toNat, 0, 0]
def k0_mult49 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_874 : BitVec 32 := 4#32
  let v1516 : BitVec 32 := Scalar.muli v26 c4_i32_874
  let c0_i32_875 : BitVec 32 := 0#32
  let v1517 : BitVec 32 := Scalar.addi v1516 c0_i32_875
  let c256_i32 : BitVec 32 := 256#32
  let v1518 : BitVec 32 := Scalar.muli v1517 c256_i32
  v1518
def k0_off158 (k0_t7 : Fin k0_t7_loop.trips) (c0_i32_875 : BitVec 32) : Fin 4 → Nat :=
  let c0_876 : Index := 0#32
  let c0_877 : Index := 0#32
  let c0_878 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_874 : BitVec 32 := 4#32
  let v1516 : BitVec 32 := Scalar.muli v26 c4_i32_874
  let v1517 : BitVec 32 := Scalar.addi v1516 c0_i32_875
  let c256_i32 : BitVec 32 := 256#32
  let v1518 : BitVec 32 := Scalar.muli v1517 c256_i32
  let v1519 : BitVec 32 := v1518
  let v1521 : Index := Scalar.indexCast v1519
  ![0, 0, 0, v1521.toNat]
def k0_mult50 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_879 : BitVec 32 := 4#32
  let v1531 : BitVec 32 := Scalar.muli v26 c4_i32_879
  let c1_i32_880 : BitVec 32 := 1#32
  let v1532 : BitVec 32 := Scalar.addi v1531 c1_i32_880
  let c256_i32_881 : BitVec 32 := 256#32
  let v1533 : BitVec 32 := Scalar.muli v1532 c256_i32_881
  v1533
def k0_mult51 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_885 : BitVec 32 := 4#32
  let v1546 : BitVec 32 := Scalar.muli v26 c4_i32_885
  let c2_i32_886 : BitVec 32 := 2#32
  let v1547 : BitVec 32 := Scalar.addi v1546 c2_i32_886
  let c256_i32_887 : BitVec 32 := 256#32
  let v1548 : BitVec 32 := Scalar.muli v1547 c256_i32_887
  v1548
def k0_mult52 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_891 : BitVec 32 := 4#32
  let v1561 : BitVec 32 := Scalar.muli v26 c4_i32_891
  let c3_i32_892 : BitVec 32 := 3#32
  let v1562 : BitVec 32 := Scalar.addi v1561 c3_i32_892
  let c256_i32_893 : BitVec 32 := 256#32
  let v1563 : BitVec 32 := Scalar.muli v1562 c256_i32_893
  v1563
def k0_off159 (k0_t7 : Fin k0_t7_loop.trips) (c0_i32_898 : BitVec 32) : Fin 5 → Nat :=
  let c0_899 : Index := 0#32
  let c0_900 : Index := 0#32
  let c1_901 : Index := 1#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_897 : BitVec 32 := 4#32
  let v1570 : BitVec 32 := Scalar.muli v26 c4_i32_897
  let v1571 : BitVec 32 := Scalar.addi v1570 c0_i32_898
  let v1572 : Index := Scalar.indexCast v1571
  let c0_902 : Index := 0#32
  ![0, 0, 1, v1572.toNat, 0]
def k0_off160 (k0_t7 : Fin k0_t7_loop.trips) : Fin 4 → Nat :=
  let c0_1669 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let v2838 : Index := Scalar.indexCast v26
  let c0_1670 : Index := 0#32
  let c0_1671 : Index := 0#32
  ![0, v2838.toNat, 0, 0]
def k0_mult53 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_1676 : BitVec 32 := 4#32
  let v2851 : BitVec 32 := Scalar.muli v26 c4_i32_1676
  let c0_i32_1677 : BitVec 32 := 0#32
  let v2852 : BitVec 32 := Scalar.addi v2851 c0_i32_1677
  let c256_i32_1678 : BitVec 32 := 256#32
  let v2853 : BitVec 32 := Scalar.muli v2852 c256_i32_1678
  v2853
def k0_off161 (k0_t7 : Fin k0_t7_loop.trips) (c0_i32_1677 : BitVec 32) : Fin 4 → Nat :=
  let c0_1679 : Index := 0#32
  let c1_1680 : Index := 1#32
  let c0_1681 : Index := 0#32
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_1676 : BitVec 32 := 4#32
  let v2851 : BitVec 32 := Scalar.muli v26 c4_i32_1676
  let v2852 : BitVec 32 := Scalar.addi v2851 c0_i32_1677
  let c256_i32_1678 : BitVec 32 := 256#32
  let v2853 : BitVec 32 := Scalar.muli v2852 c256_i32_1678
  let v2854 : BitVec 32 := v2853
  let v2856 : Index := Scalar.indexCast v2854
  ![0, 1, 0, v2856.toNat]
def k0_mult54 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_1682 : BitVec 32 := 4#32
  let v2866 : BitVec 32 := Scalar.muli v26 c4_i32_1682
  let c1_i32_1683 : BitVec 32 := 1#32
  let v2867 : BitVec 32 := Scalar.addi v2866 c1_i32_1683
  let c256_i32_1684 : BitVec 32 := 256#32
  let v2868 : BitVec 32 := Scalar.muli v2867 c256_i32_1684
  v2868
def k0_mult55 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_1688 : BitVec 32 := 4#32
  let v2881 : BitVec 32 := Scalar.muli v26 c4_i32_1688
  let c2_i32_1689 : BitVec 32 := 2#32
  let v2882 : BitVec 32 := Scalar.addi v2881 c2_i32_1689
  let c256_i32_1690 : BitVec 32 := 256#32
  let v2883 : BitVec 32 := Scalar.muli v2882 c256_i32_1690
  v2883
def k0_mult56 (k0_t7 : Fin k0_t7_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t7
  let c1_i32_12 : BitVec 32 := 1#32
  let v25 : BitVec 32 := Scalar.muli arg12 c1_i32_12
  let v26 : BitVec 32 := Scalar.addi c0_i32_13 v25
  let c4_i32_1694 : BitVec 32 := 4#32
  let v2896 : BitVec 32 := Scalar.muli v26 c4_i32_1694
  let c3_i32_1695 : BitVec 32 := 3#32
  let v2897 : BitVec 32 := Scalar.addi v2896 c3_i32_1695
  let c256_i32_1696 : BitVec 32 := 256#32
  let v2898 : BitVec 32 := Scalar.muli v2897 c256_i32_1696
  v2898
def k0_cond8 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_7 : BitVec 32 := 0#32
  let v23 : BitVec 1 := Scalar.cmpi .ne v22 c0_i32_7
  v23

@[reducible] def k0_t8_loop : Scf.Loop 32 :=
  let c0_i32_8 : BitVec 32 := 0#32
  let c4_i32_9 : BitVec 32 := 4#32
  let v24 : BitVec 32 := Scalar.addi c0_i32_8 c4_i32_9
  let c1_i32_10 : BitVec 32 := 1#32
  ⟨c0_i32_8, v24, c1_i32_10⟩
def k0_off162 (k0_t8 : Fin k0_t8_loop.trips) : Fin 4 → Nat :=
  let c0 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v27 : Index := Scalar.indexCast v26
  let c0_14 : Index := 0#32
  let c0_15 : Index := 0#32
  ![0, v27.toNat, 0, 0]
def k0_off163 (k0_t8 : Fin k0_t8_loop.trips) : Fin 6 → Nat :=
  let c0_16 : Index := 0#32
  let c0_17 : Index := 0#32
  let c0_18 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v30 : Index := Scalar.indexCast v26
  let c0_19 : Index := 0#32
  let c0_20 : Index := 0#32
  ![0, 0, 0, v30.toNat, 0, 0]
def k0_off164 (k0_t8 : Fin k0_t8_loop.trips) : Fin 4 → Nat :=
  let c0_21 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v34 : Index := Scalar.indexCast v26
  let c0_22 : Index := 0#32
  let c0_23 : Index := 0#32
  ![0, v34.toNat, 0, 0]
def k0_off165 (k0_t8 : Fin k0_t8_loop.trips) : Fin 4 → Nat :=
  let c0_37 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v65 : Index := Scalar.indexCast v26
  let c128_38 : Index := 128#32
  let c0_39 : Index := 0#32
  ![0, v65.toNat, 128, 0]
def k0_off166 (k0_t8 : Fin k0_t8_loop.trips) : Fin 4 → Nat :=
  let c0_56 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v100 : Index := Scalar.indexCast v26
  let c256_57 : Index := 256#32
  let c0_58 : Index := 0#32
  ![0, v100.toNat, 256, 0]
def k0_off167 (k0_t8 : Fin k0_t8_loop.trips) : Fin 4 → Nat :=
  let c0_75 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v135 : Index := Scalar.indexCast v26
  let c384_76 : Index := 384#32
  let c0_77 : Index := 0#32
  ![0, v135.toNat, 384, 0]
def k0_off168 (k0_t8 : Fin k0_t8_loop.trips) : Fin 4 → Nat :=
  let c0_94 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v170 : Index := Scalar.indexCast v26
  let c512 : Index := 512#32
  let c0_95 : Index := 0#32
  ![0, v170.toNat, 512, 0]
def k0_off169 (k0_t8 : Fin k0_t8_loop.trips) : Fin 4 → Nat :=
  let c0_112 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v205 : Index := Scalar.indexCast v26
  let c640 : Index := 640#32
  let c0_113 : Index := 0#32
  ![0, v205.toNat, 640, 0]
def k0_off170 (k0_t8 : Fin k0_t8_loop.trips) : Fin 4 → Nat :=
  let c0_130 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v240 : Index := Scalar.indexCast v26
  let c768 : Index := 768#32
  let c0_131 : Index := 0#32
  ![0, v240.toNat, 768, 0]
def k0_off171 (k0_t8 : Fin k0_t8_loop.trips) : Fin 4 → Nat :=
  let c0_148 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v275 : Index := Scalar.indexCast v26
  let c896 : Index := 896#32
  let c0_149 : Index := 0#32
  ![0, v275.toNat, 896, 0]
def k0_off172 (k0_t8 : Fin k0_t8_loop.trips) : Fin 4 → Nat :=
  let c0_187 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v350 : Index := Scalar.indexCast v26
  let c0_188 : Index := 0#32
  let c0_189 : Index := 0#32
  ![0, v350.toNat, 0, 0]
def k0_off173 (k0_t8 : Fin k0_t8_loop.trips) : Fin 6 → Nat :=
  let c0_190 : Index := 0#32
  let c0_191 : Index := 0#32
  let c1_192 : Index := 1#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v353 : Index := Scalar.indexCast v26
  let c0_193 : Index := 0#32
  let c0_194 : Index := 0#32
  ![0, 0, 1, v353.toNat, 0, 0]
def k0_off174 (k0_t8 : Fin k0_t8_loop.trips) : Fin 4 → Nat :=
  let c0_348 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v633 : Index := Scalar.indexCast v26
  let c1024 : Index := 1024#32
  let c0_349 : Index := 0#32
  ![0, v633.toNat, 1024, 0]
def k0_off175 (k0_t8 : Fin k0_t8_loop.trips) : Fin 4 → Nat :=
  let c0_366 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v668 : Index := Scalar.indexCast v26
  let c1152 : Index := 1152#32
  let c0_367 : Index := 0#32
  ![0, v668.toNat, 1152, 0]
def k0_off176 (k0_t8 : Fin k0_t8_loop.trips) : Fin 4 → Nat :=
  let c0_384 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v703 : Index := Scalar.indexCast v26
  let c1280 : Index := 1280#32
  let c0_385 : Index := 0#32
  ![0, v703.toNat, 1280, 0]
def k0_off177 (k0_t8 : Fin k0_t8_loop.trips) : Fin 4 → Nat :=
  let c0_402 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v738 : Index := Scalar.indexCast v26
  let c1408 : Index := 1408#32
  let c0_403 : Index := 0#32
  ![0, v738.toNat, 1408, 0]
def k0_off178 (k0_t8 : Fin k0_t8_loop.trips) : Fin 4 → Nat :=
  let c0_420 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v773 : Index := Scalar.indexCast v26
  let c1536 : Index := 1536#32
  let c0_421 : Index := 0#32
  ![0, v773.toNat, 1536, 0]
def k0_off179 (k0_t8 : Fin k0_t8_loop.trips) : Fin 4 → Nat :=
  let c0_438 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v808 : Index := Scalar.indexCast v26
  let c1664 : Index := 1664#32
  let c0_439 : Index := 0#32
  ![0, v808.toNat, 1664, 0]
def k0_off180 (k0_t8 : Fin k0_t8_loop.trips) : Fin 4 → Nat :=
  let c0_456 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v843 : Index := Scalar.indexCast v26
  let c1792 : Index := 1792#32
  let c0_457 : Index := 0#32
  ![0, v843.toNat, 1792, 0]
def k0_off181 (k0_t8 : Fin k0_t8_loop.trips) : Fin 4 → Nat :=
  let c0_474 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v878 : Index := Scalar.indexCast v26
  let c1920 : Index := 1920#32
  let c0_475 : Index := 0#32
  ![0, v878.toNat, 1920, 0]
def k0_off182 (k0_t8 : Fin k0_t8_loop.trips) (c0_i32_517 : BitVec 32) : Fin 5 → Nat :=
  let c0_518 : Index := 0#32
  let c0_519 : Index := 0#32
  let c0_520 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_516 : BitVec 32 := 4#32
  let v953 : BitVec 32 := Scalar.muli v26 c4_i32_516
  let v954 : BitVec 32 := Scalar.addi v953 c0_i32_517
  let v955 : Index := Scalar.indexCast v954
  let c0_521 : Index := 0#32
  ![0, 0, 0, v955.toNat, 0]
def k0_off183 (k0_t8 : Fin k0_t8_loop.trips) : Fin 4 → Nat :=
  let c0_952 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v1654 : Index := Scalar.indexCast v26
  let c0_953 : Index := 0#32
  let c0_954 : Index := 0#32
  ![0, v1654.toNat, 0, 0]
def k0_off184 (k0_t8 : Fin k0_t8_loop.trips) : Fin 4 → Nat :=
  let c0_956 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v1658 : Index := Scalar.indexCast v26
  let c0_957 : Index := 0#32
  let c0_958 : Index := 0#32
  ![0, v1658.toNat, 0, 0]
def k0_mult57 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_959 : BitVec 32 := 4#32
  let v1667 : BitVec 32 := Scalar.muli v26 c4_i32_959
  let c0_i32_960 : BitVec 32 := 0#32
  let v1668 : BitVec 32 := Scalar.addi v1667 c0_i32_960
  let c256_i32 : BitVec 32 := 256#32
  let v1669 : BitVec 32 := Scalar.muli v1668 c256_i32
  v1669
def k0_off185 (k0_t8 : Fin k0_t8_loop.trips) (c0_i32_960 : BitVec 32) : Fin 4 → Nat :=
  let c0_961 : Index := 0#32
  let c0_962 : Index := 0#32
  let c0_963 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_959 : BitVec 32 := 4#32
  let v1667 : BitVec 32 := Scalar.muli v26 c4_i32_959
  let v1668 : BitVec 32 := Scalar.addi v1667 c0_i32_960
  let c256_i32 : BitVec 32 := 256#32
  let v1669 : BitVec 32 := Scalar.muli v1668 c256_i32
  let v1670 : BitVec 32 := v1669
  let v1672 : Index := Scalar.indexCast v1670
  ![0, 0, 0, v1672.toNat]
def k0_mult58 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_964 : BitVec 32 := 4#32
  let v1682 : BitVec 32 := Scalar.muli v26 c4_i32_964
  let c1_i32_965 : BitVec 32 := 1#32
  let v1683 : BitVec 32 := Scalar.addi v1682 c1_i32_965
  let c256_i32_966 : BitVec 32 := 256#32
  let v1684 : BitVec 32 := Scalar.muli v1683 c256_i32_966
  v1684
def k0_mult59 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_970 : BitVec 32 := 4#32
  let v1697 : BitVec 32 := Scalar.muli v26 c4_i32_970
  let c2_i32_971 : BitVec 32 := 2#32
  let v1698 : BitVec 32 := Scalar.addi v1697 c2_i32_971
  let c256_i32_972 : BitVec 32 := 256#32
  let v1699 : BitVec 32 := Scalar.muli v1698 c256_i32_972
  v1699
def k0_mult60 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_976 : BitVec 32 := 4#32
  let v1712 : BitVec 32 := Scalar.muli v26 c4_i32_976
  let c3_i32_977 : BitVec 32 := 3#32
  let v1713 : BitVec 32 := Scalar.addi v1712 c3_i32_977
  let c256_i32_978 : BitVec 32 := 256#32
  let v1714 : BitVec 32 := Scalar.muli v1713 c256_i32_978
  v1714
def k0_off186 (k0_t8 : Fin k0_t8_loop.trips) (c0_i32_983 : BitVec 32) : Fin 5 → Nat :=
  let c0_984 : Index := 0#32
  let c0_985 : Index := 0#32
  let c1_986 : Index := 1#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_982 : BitVec 32 := 4#32
  let v1721 : BitVec 32 := Scalar.muli v26 c4_i32_982
  let v1722 : BitVec 32 := Scalar.addi v1721 c0_i32_983
  let v1723 : Index := Scalar.indexCast v1722
  let c0_987 : Index := 0#32
  ![0, 0, 1, v1723.toNat, 0]
def k0_off187 (k0_t8 : Fin k0_t8_loop.trips) : Fin 4 → Nat :=
  let c0_1802 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let v3070 : Index := Scalar.indexCast v26
  let c0_1803 : Index := 0#32
  let c0_1804 : Index := 0#32
  ![0, v3070.toNat, 0, 0]
def k0_mult61 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_1809 : BitVec 32 := 4#32
  let v3083 : BitVec 32 := Scalar.muli v26 c4_i32_1809
  let c0_i32_1810 : BitVec 32 := 0#32
  let v3084 : BitVec 32 := Scalar.addi v3083 c0_i32_1810
  let c256_i32_1811 : BitVec 32 := 256#32
  let v3085 : BitVec 32 := Scalar.muli v3084 c256_i32_1811
  v3085
def k0_off188 (k0_t8 : Fin k0_t8_loop.trips) (c0_i32_1810 : BitVec 32) : Fin 4 → Nat :=
  let c0_1812 : Index := 0#32
  let c1_1813 : Index := 1#32
  let c0_1814 : Index := 0#32
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_1809 : BitVec 32 := 4#32
  let v3083 : BitVec 32 := Scalar.muli v26 c4_i32_1809
  let v3084 : BitVec 32 := Scalar.addi v3083 c0_i32_1810
  let c256_i32_1811 : BitVec 32 := 256#32
  let v3085 : BitVec 32 := Scalar.muli v3084 c256_i32_1811
  let v3086 : BitVec 32 := v3085
  let v3088 : Index := Scalar.indexCast v3086
  ![0, 1, 0, v3088.toNat]
def k0_mult62 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_1815 : BitVec 32 := 4#32
  let v3098 : BitVec 32 := Scalar.muli v26 c4_i32_1815
  let c1_i32_1816 : BitVec 32 := 1#32
  let v3099 : BitVec 32 := Scalar.addi v3098 c1_i32_1816
  let c256_i32_1817 : BitVec 32 := 256#32
  let v3100 : BitVec 32 := Scalar.muli v3099 c256_i32_1817
  v3100
def k0_mult63 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_1821 : BitVec 32 := 4#32
  let v3113 : BitVec 32 := Scalar.muli v26 c4_i32_1821
  let c2_i32_1822 : BitVec 32 := 2#32
  let v3114 : BitVec 32 := Scalar.addi v3113 c2_i32_1822
  let c256_i32_1823 : BitVec 32 := 256#32
  let v3115 : BitVec 32 := Scalar.muli v3114 c256_i32_1823
  v3115
def k0_mult64 (k0_t8 : Fin k0_t8_loop.trips) : BitVec 32 :=
  let c0_i32_13 : BitVec 32 := 0#32
  let c0_i32_8 : BitVec 32 := 0#32
  let c1_i32_10 : BitVec 32 := 1#32
  let arg12 : BitVec 32 := Scf.iv c0_i32_8 c1_i32_10 k0_t8
  let c1_i32_12 : BitVec 32 := 1#32
  let v25 : BitVec 32 := Scalar.muli arg12 c1_i32_12
  let v26 : BitVec 32 := Scalar.addi c0_i32_13 v25
  let c4_i32_1827 : BitVec 32 := 4#32
  let v3128 : BitVec 32 := Scalar.muli v26 c4_i32_1827
  let c3_i32_1828 : BitVec 32 := 3#32
  let v3129 : BitVec 32 := Scalar.addi v3128 c3_i32_1828
  let c256_i32_1829 : BitVec 32 := 256#32
  let v3130 : BitVec 32 := Scalar.muli v3129 c256_i32_1829
  v3130
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1x2x4x512x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x2048x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x2048x16x256 : Shape := ⟨4, ![8, 2048, 16, 256]⟩
abbrev S8x2048x16 : Shape := ⟨3, ![8, 2048, 16]⟩
abbrev S8x2048x4x256 : Shape := ⟨4, ![8, 2048, 4, 256]⟩
abbrev S8x2048x4 : Shape := ⟨3, ![8, 2048, 4]⟩
abbrev S8x4x256 : Shape := ⟨3, ![8, 4, 256]⟩
abbrev S8x16x2048x256 : Shape := ⟨4, ![8, 16, 2048, 256]⟩
abbrev S8x16x1x2048x256 : Shape := ⟨5, ![8, 16, 1, 2048, 256]⟩
abbrev S128x2048x256 : Shape := ⟨3, ![128, 2048, 256]⟩
abbrev S_ : Shape := ⟨0, ![]⟩
abbrev S8x2048x16x1 : Shape := ⟨4, ![8, 2048, 16, 1]⟩
abbrev S8x16x2048x1 : Shape := ⟨4, ![8, 16, 2048, 1]⟩
abbrev S8x16x1x2048x1 : Shape := ⟨5, ![8, 16, 1, 2048, 1]⟩
abbrev S128x2048x1 : Shape := ⟨3, ![128, 2048, 1]⟩
abbrev S8x4x2048x256 : Shape := ⟨4, ![8, 4, 2048, 256]⟩
abbrev S8x4x1x2048x256 : Shape := ⟨5, ![8, 4, 1, 2048, 256]⟩
abbrev S8x4x4x2048x256 : Shape := ⟨5, ![8, 4, 4, 2048, 256]⟩
abbrev S8x2048x4x1 : Shape := ⟨4, ![8, 2048, 4, 1]⟩
abbrev S8x4x2048x1 : Shape := ⟨4, ![8, 4, 2048, 1]⟩
abbrev S8x4x1x2048x1 : Shape := ⟨5, ![8, 4, 1, 2048, 1]⟩
abbrev S8x4x4x2048x1 : Shape := ⟨5, ![8, 4, 4, 2048, 1]⟩
abbrev S128x1x2048 : Shape := ⟨3, ![128, 1, 2048]⟩
abbrev S8x1x4x256 : Shape := ⟨4, ![8, 1, 4, 256]⟩
abbrev S8x4x1x256 : Shape := ⟨4, ![8, 4, 1, 256]⟩
abbrev S8x4x1x1x256 : Shape := ⟨5, ![8, 4, 1, 1, 256]⟩
abbrev S8x4x4x1x256 : Shape := ⟨5, ![8, 4, 4, 1, 256]⟩
abbrev S128x1x256 : Shape := ⟨3, ![128, 1, 256]⟩
abbrev S8x2x1024x4096 : Shape := ⟨4, ![8, 2, 1024, 4096]⟩
abbrev S128x2048x2048 : Shape := ⟨3, ![128, 2048, 2048]⟩
abbrev S128x2048 : Shape := ⟨2, ![128, 2048]⟩

abbrev nBuf : Space → Nat
  | .hbm => 36
  | .vmem => 7
  | .smem => 0
  | _ => 0

abbrev bufTy : (tb : Table) → Fin (tcTables nBuf tb) → BufTy
  | .hbm, ⟨0, _⟩ => ⟨S8x2048x16x256, .fp8e4m3⟩
  | .hbm, ⟨1, _⟩ => ⟨S8x2048x16, .f32⟩
  | .hbm, ⟨2, _⟩ => ⟨S8x2048x4x256, .fp8e4m3⟩
  | .hbm, ⟨3, _⟩ => ⟨S8x2048x4, .f32⟩
  | .hbm, ⟨4, _⟩ => ⟨S8x2048x4x256, .fp8e4m3⟩
  | .hbm, ⟨5, _⟩ => ⟨S8x4x256, .f32⟩
  | .hbm, ⟨6, _⟩ => ⟨S8x16x2048x256, .fp8e4m3⟩
  | .hbm, ⟨7, _⟩ => ⟨S8x16x1x2048x256, .fp8e4m3⟩
  | .hbm, ⟨8, _⟩ => ⟨S128x2048x256, .fp8e4m3⟩
  | .hbm, ⟨9, _⟩ => ⟨S_, .f32⟩
  | .hbm, ⟨10, _⟩ => ⟨S8x2048x16, .f32⟩
  | .hbm, ⟨11, _⟩ => ⟨S8x2048x16, .f32⟩
  | .hbm, ⟨12, _⟩ => ⟨S8x2048x16x1, .f32⟩
  | .hbm, ⟨13, _⟩ => ⟨S8x16x2048x1, .f32⟩
  | .hbm, ⟨14, _⟩ => ⟨S8x16x1x2048x1, .f32⟩
  | .hbm, ⟨15, _⟩ => ⟨S128x2048x1, .f32⟩
  | .hbm, ⟨16, _⟩ => ⟨S8x4x2048x256, .fp8e4m3⟩
  | .hbm, ⟨17, _⟩ => ⟨S8x4x1x2048x256, .fp8e4m3⟩
  | .hbm, ⟨18, _⟩ => ⟨S8x4x4x2048x256, .fp8e4m3⟩
  | .hbm, ⟨19, _⟩ => ⟨S128x2048x256, .fp8e4m3⟩
  | .hbm, ⟨20, _⟩ => ⟨S8x2048x4x1, .f32⟩
  | .hbm, ⟨21, _⟩ => ⟨S8x4x2048x1, .f32⟩
  | .hbm, ⟨22, _⟩ => ⟨S8x4x1x2048x1, .f32⟩
  | .hbm, ⟨23, _⟩ => ⟨S8x4x4x2048x1, .f32⟩
  | .hbm, ⟨24, _⟩ => ⟨S128x2048x1, .f32⟩
  | .hbm, ⟨25, _⟩ => ⟨S128x1x2048, .f32⟩
  | .hbm, ⟨26, _⟩ => ⟨S8x4x2048x256, .fp8e4m3⟩
  | .hbm, ⟨27, _⟩ => ⟨S8x4x1x2048x256, .fp8e4m3⟩
  | .hbm, ⟨28, _⟩ => ⟨S8x4x4x2048x256, .fp8e4m3⟩
  | .hbm, ⟨29, _⟩ => ⟨S128x2048x256, .fp8e4m3⟩
  | .hbm, ⟨30, _⟩ => ⟨S8x1x4x256, .f32⟩
  | .hbm, ⟨31, _⟩ => ⟨S8x4x1x256, .f32⟩
  | .hbm, ⟨32, _⟩ => ⟨S8x4x1x1x256, .f32⟩
  | .hbm, ⟨33, _⟩ => ⟨S8x4x4x1x256, .f32⟩
  | .hbm, ⟨34, _⟩ => ⟨S128x1x256, .f32⟩
  | .hbm, ⟨35, _⟩ => ⟨S8x2x1024x4096, .bf16⟩
  | .local _ .vmem, ⟨0, _⟩ => ⟨S128x2048x256, .fp8e4m3⟩
  | .local _ .vmem, ⟨1, _⟩ => ⟨S128x2048x1, .f32⟩
  | .local _ .vmem, ⟨2, _⟩ => ⟨S128x2048x256, .fp8e4m3⟩
  | .local _ .vmem, ⟨3, _⟩ => ⟨S128x1x2048, .f32⟩
  | .local _ .vmem, ⟨4, _⟩ => ⟨S128x2048x256, .fp8e4m3⟩
  | .local _ .vmem, ⟨5, _⟩ => ⟨S128x1x256, .f32⟩
  | .local _ .vmem, ⟨6, _⟩ => ⟨S8x2x1024x4096, .bf16⟩
  | _, _ => ⟨S8x2048x16x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x2048x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Safe.RunA.lean ====
/- The kernel's body is safe at the steps `0` of the second grid axis. -/
module

public import proofs.«01_k».proof.Proof.Gen.Kernel.Frame.Runs

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `0` the body, from whole buffers (the operands at given contents, the output and the scratch at any), ends with
    the operands unchanged and the output and the scratch at some contents. -/
theorem kernelRun0_A (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunB.lean ====
/- The kernel's body is safe at the steps `1` of the second grid axis. -/
module

public import proofs.«01_k».proof.Proof.Safe.RunA

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `1` the body, from whole buffers (the operands at given contents, the output and the scratch at any), ends with
    the operands unchanged and the output and the scratch at some contents. -/
theorem kernelRun0_B (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : cond0_1 i) (hc2 : ¬cond0_2 i) (hc3 : ¬cond0_3 i) (hc4 : ¬cond0_4 i) (hc5 : ¬cond0_5 i) (hc6 : ¬cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunC.lean ====
/- The kernel's body is safe at the steps `2` of the second grid axis. -/
module

public import proofs.«01_k».proof.Proof.Safe.RunB

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `2` the body, from whole buffers (the operands at given contents, the output and the scratch at any), ends with
    the operands unchanged and the output and the scratch at some contents. -/
theorem kernelRun0_C (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunD.lean ====
/- The kernel's body is safe at the steps `3` of the second grid axis. -/
module

public import proofs.«01_k».proof.Proof.Safe.RunC

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `3` the body, from whole buffers (the operands at given contents, the output and the scratch at any), ends with
    the operands unchanged and the output and the scratch at some contents. -/
theorem kernelRun0_D (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunE.lean ====
/- The kernel's body is safe at the steps `4` of the second grid axis. -/
module

public import proofs.«01_k».proof.Proof.Safe.RunD

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `4` the body, from whole buffers (the operands at given contents, the output and the scratch at any), ends with
    the operands unchanged and the output and the scratch at some contents. -/
theorem kernelRun0_E (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunF.lean ====
/- The kernel's body is safe at the steps `5` of the second grid axis. -/
module

public import proofs.«01_k».proof.Proof.Safe.RunE

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `5` the body, from whole buffers (the operands at given contents, the output and the scratch at any), ends with
    the operands unchanged and the output and the scratch at some contents. -/
theorem kernelRun0_F (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunG.lean ====
/- The kernel's body is safe at the steps `6` of the second grid axis. -/
module

public import proofs.«01_k».proof.Proof.Safe.RunF

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `6` the body, from whole buffers (the operands at given contents, the output and the scratch at any), ends with
    the operands unchanged and the output and the scratch at some contents. -/
theorem kernelRun0_G (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.RunH.lean ====
/- The kernel's body is safe at the steps `7` of the second grid axis. -/
module

public import proofs.«01_k».proof.Proof.Safe.RunG

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- At step `7` the body, from whole buffers (the operands at given contents, the output and the scratch at any), ends with
    the operands unchanged and the output and the scratch at some contents. -/
theorem kernelRun0_H (c : Dev nD) (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i)
    (x0 : Vec F S1x1x2x4x512x256 .fp8e4m3) (x1 : Vec F S1x1x2x16x128 .f32) (x2 : Vec F S1x4x2048x256 .fp8e4m3) (x3 : Vec F S1x4x2048x128 .f32) (x4 : Vec F S1x4x256x2048 .fp8e4m3) (x5 : Vec F S1x4x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gqa_fp8_prompt i arg2 harg2 arg3 harg3 arg4 harg4 arg5 harg5 arg6 harg6 arg7 harg7 arg8 harg8 arg9 harg9 arg10 harg10 arg11 harg11) K := by
    intro E K
    simp only [cc0_gqa_fp8_prompt_eq_skeleton]; unfold cc0_gqa_fp8_prompt_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1 | sl_exact hc2 | sl_exact hc3 | sl_exact hc4 | sl_exact hc5 | sl_exact hc6 | sl_exact hc7)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Safe

end
-- ==== Proof.Safe.Frame.lean ====
/- The kernel over any values: it ends without fault, and its arguments are unchanged. -/
module

public import proofs.«01_k».proof.Proof.Safe.RunH
public import Idealize.ShloMosaic.Lib.Claim

@[expose] public section

set_option maxRecDepth 16384

noncomputable section

namespace Cert.Kernel.Safe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen hiding frame_of
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! The frame from a run. -/

/-- The frame from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! The pipeline's proof data. -/

/-- The output windows this certificate forgets (6): nothing reads what the kernel leaves in them, so nothing
    of it is named (Lib/Pipeline/Dat.lean `Dat.toRForget`). -/
def forgets0 : Fin 7 → Bool := fun w => w.val == 6

/-- The proof data of the one pipeline on core `c`: the arrays as the region finds them (`V`); after the body at
    point `t` each input's buffer at its block and the outputs, forgotten, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · by_cases h1 : t.val % 8 = 1
    · exfalso; omega
    · by_cases h2 : t.val % 8 = 2
      · exfalso; omega
      · by_cases h3 : t.val % 8 = 3
        · exfalso; omega
        · by_cases h4 : t.val % 8 = 4
          · exfalso; omega
          · by_cases h5 : t.val % 8 = 5
            · exfalso; omega
            · by_cases h6 : t.val % 8 = 6
              · exfalso; omega
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
  · by_cases h1 : t.val % 8 = 1
    · by_cases h2 : t.val % 8 = 2
      · exfalso; omega
      · by_cases h3 : t.val % 8 = 3
        · exfalso; omega
        · by_cases h4 : t.val % 8 = 4
          · exfalso; omega
          · by_cases h5 : t.val % 8 = 5
            · exfalso; omega
            · by_cases h6 : t.val % 8 = 6
              · exfalso; omega
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
    · by_cases h2 : t.val % 8 = 2
      · by_cases h3 : t.val % 8 = 3
        · exfalso; omega
        · by_cases h4 : t.val % 8 = 4
          · exfalso; omega
          · by_cases h5 : t.val % 8 = 5
            · exfalso; omega
            · by_cases h6 : t.val % 8 = 6
              · exfalso; omega
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_C c (grid0.coords t) _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
      · by_cases h3 : t.val % 8 = 3
        · by_cases h4 : t.val % 8 = 4
          · exfalso; omega
          · by_cases h5 : t.val % 8 = 5
            · exfalso; omega
            · by_cases h6 : t.val % 8 = 6
              · exfalso; omega
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_D c (grid0.coords t) _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
        · by_cases h4 : t.val % 8 = 4
          · by_cases h5 : t.val % 8 = 5
            · exfalso; omega
            · by_cases h6 : t.val % 8 = 6
              · exfalso; omega
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_E c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
          · by_cases h5 : t.val % 8 = 5
            · by_cases h6 : t.val % 8 = 6
              · exfalso; omega
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_F c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
            · by_cases h6 : t.val % 8 = 6
              · by_cases h7 : t.val % 8 = 7
                · exfalso; omega
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_G c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
              · by_cases h7 : t.val % 8 = 7
                · rw [show (dats m 0 c).leavesExact 0 t = owns (c : Thread nD τ) (ms0_0 t) fullShare ((dats m 0 c).after 0 t) from by
      unfold Dat.leavesExact; rw [liveAt0_0 t], after0_0]
                  rw [show (dats m 0 c).leavesExact 1 t = owns (c : Thread nD τ) (ms0_1 t) fullShare ((dats m 0 c).after 1 t) from by
      unfold Dat.leavesExact; rw [liveAt0_1 t], after0_1]
                  rw [show (dats m 0 c).leavesExact 2 t = owns (c : Thread nD τ) (ms0_2 t) fullShare ((dats m 0 c).after 2 t) from by
      unfold Dat.leavesExact; rw [liveAt0_2 t], after0_2]
                  rw [show (dats m 0 c).leavesExact 3 t = owns (c : Thread nD τ) (ms0_3 t) fullShare ((dats m 0 c).after 3 t) from by
      unfold Dat.leavesExact; rw [liveAt0_3 t], after0_3]
                  rw [show (dats m 0 c).leavesExact 4 t = owns (c : Thread nD τ) (ms0_4 t) fullShare ((dats m 0 c).after 4 t) from by
      unfold Dat.leavesExact; rw [liveAt0_4 t], after0_4]
                  rw [show (dats m 0 c).leavesExact 5 t = owns (c : Thread nD τ) (ms0_5 t) fullShare ((dats m 0 c).after 5 t) from by
      unfold Dat.leavesExact; rw [liveAt0_5 t], after0_5]
                  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
                  iapply ((kernelRun0_H c (grid0.coords t) _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (iblk m c 0 t) (iblk m c 1 t) (iblk m c 2 t) (iblk m c 3 t) (iblk m c 4 t) (iblk m c 5 t)) Set.univ _)
                  isplitl [H0]; · iexact H0
                  isplitl [H1]; · iexact H1
                  isplitl [H2]; · iexact H2
                  isplitl [H3]; · iexact H3
                  isplitl [H4]; · iexact H4
                  isplitl [H5]; · iexact H5
                  isplitl [H6]; · iexists _; iexact H6
                  isplitl [HS0]; · iexact HS0
                  isplitl [HS1]; · iexact HS1
                  isplitl [HS2]; · iexact HS2
                  iintro ⟨H0, H1, H2, H3, H4, H5, H6, HS0, HS1, HS2⟩
                  isplitl [HS0 HS1 HS2 Hg]
                  · isplitl [HS0 HS1 HS2]
                    · isplitl [HS0]
                      · iexact HS0
                      isplitl [HS1]
                      · iexact HS1
                      iexact HS2
                    iexact Hg
                  isplitl [Ho]; · iexact Ho
                  isplitl [H0]; · iexact H0
                  isplitl [H1]; · iexact H1
                  isplitl [H2]; · iexact H2
                  isplitl [H3]; · iexact H3
                  isplitl [H4]; · iexact H4
                  isplitl [H5]; · iexact H5
                  iexact H6
                · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    forgotten outputs (window 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Safe

end
-- ==== Proof.Attend.lean ====
/- The body of one grid step, written once for all eight steps: the number of key tiles and the group of heads are parameters. -/
module

public import proofs.«01_k».proof.KernelIdeal

@[expose] public section

noncomputable section

namespace Cert.KernelIdeal.Attend

open Idealize.ShloMosaic Idealize.SL.Sem

variable {F : FTy → Type} [FloatOps F] [Facts]

open Facts Shapes1.Facts₀ K0.Facts₀

/-- A program of the kernel's core. -/
abbrev PG (α : Type) := Prog (TpuEff nD τ sig (Elt F) Λ₀ .tc) α

/-- Keys by queries of a group, `n` tiles of keys. -/
abbrev Sk (n : Nat) : Shape := ⟨2, ![n * 128, 512]⟩
/-- Keys by head dimension, `n` tiles of keys. -/
abbrev Skc (n : Nat) : Shape := ⟨2, ![n * 128, 256]⟩
/-- Head dimension by keys, `n` tiles of keys. -/
abbrev Svt (n : Nat) : Shape := ⟨2, ![256, n * 128]⟩
/-- `Skc` with the leading axes of its buffer. -/
abbrev Skc4 (n : Nat) : Shape := ⟨4, ![1, 1, n * 128, 256]⟩
/-- `Svt` with the leading axes of its buffer. -/
abbrev Svt4 (n : Nat) : Shape := ⟨4, ![1, 1, 256, n * 128]⟩

theorem inbS {h k c : Nat} (hh : h < 2) (hk : k < 16) (hc : c < 4) :
    ∀ a, (![h, k * 128, c * 128] : Fin 3 → Nat) a + S1x128x128.size a ≤ S2x2048x512.size a := by
  intro a; fin_cases a <;> simp [S1x128x128, S2x2048x512] <;> omega

theorem inbM {h c : Nat} (hh : h < 2) (hc : c < 4) :
    ∀ a, (![h, c, 0, 0] : Fin 4 → Nat) a + S1x1x1x128.size a ≤ S2x4x1x128.size a := by
  intro a; fin_cases a <;> simp [S1x1x1x128, S2x4x1x128] <;> omega

theorem inbKc {g n : Nat} (hg : g < 4) (hn : n ≤ 16) :
    ∀ a, (![0, g, 0, 0] : Fin 4 → Nat) a + (Skc4 n).size a ≤ S1x4x2048x256.size a := by
  intro a; fin_cases a <;> simp [S1x4x2048x256] <;> omega

theorem inbVt {g n : Nat} (hg : g < 4) (hn : n ≤ 16) :
    ∀ a, (![0, g, 0, 0] : Fin 4 → Nat) a + (Svt4 n).size a ≤ S1x4x256x2048.size a := by
  intro a; fin_cases a <;> simp [S1x4x256x2048] <;> omega

theorem inbQc {h g : Nat} (hh : h < 2) (hg : g < 4) :
    ∀ a, (![0, 0, h, g, 0, 0] : Fin 6 → Nat) a + S1x1x1x1x512x256.size a ≤ S1x1x2x4x512x256.size a := by
  intro a; fin_cases a <;> simp [S1x1x1x1x512x256, S1x1x2x4x512x256] <;> omega

theorem inbKs {g k : Nat} (hg : g < 4) (hk : k < 16) :
    ∀ a, (![0, g, k * 128, 0] : Fin 4 → Nat) a + S1x1x128x128.size a ≤ S1x4x2048x128.size a := by
  intro a; fin_cases a <;> simp [S1x1x128x128, S1x4x2048x128] <;> omega

theorem inbQs {h r : Nat} (hh : h < 2) (hr : r < 16) :
    ∀ a, (![0, 0, h, r, 0] : Fin 5 → Nat) a + S1x1x1x1x128.size a ≤ S1x1x2x16x128.size a := by
  intro a; fin_cases a <;> simp [S1x1x1x1x128, S1x1x2x16x128] <;> omega

theorem inbVs {g : Nat} (hg : g < 4) :
    ∀ a, (![0, g, 0, 0] : Fin 4 → Nat) a + S1x1x1x256.size a ≤ S1x4x1x256.size a := by
  intro a; fin_cases a <;> simp [S1x1x1x256, S1x4x1x256] <;> omega

theorem inbO {h r : Nat} (hh : h < 2) (hr : r + 256 ≤ 4096) :
    ∀ a, (![0, h, 0, r] : Fin 4 → Nat) a + S1x1x128x256.size a ≤ S1x2x128x4096.size a := by
  intro a; fin_cases a <;> simp [S1x1x128x256, S1x2x128x4096] <;> omega

/-- A tile of the two big scratches. -/
abbrev rS {h k c : Nat} (hh : h < 2) (hk : k < 16) (hc : c < 4) : Rect S2x2048x512 :=
  Rect.unit (s := S2x2048x512) ![h, k * 128, c * 128] S1x128x128.size (inbS hh hk hc)
/-- A row of the maxima. -/
abbrev rM {h c : Nat} (hh : h < 2) (hc : c < 4) : Rect S2x4x1x128 :=
  Rect.unit (s := S2x4x1x128) ![h, c, 0, 0] S1x1x1x128.size (inbM hh hc)
/-- The keys of a group. -/
abbrev rKc {g n : Nat} (hg : g < 4) (hn : n ≤ 16) : Rect S1x4x2048x256 :=
  Rect.unit (s := S1x4x2048x256) ![0, g, 0, 0] (Skc4 n).size (inbKc hg hn)
/-- The values of a group. -/
abbrev rVt {g n : Nat} (hg : g < 4) (hn : n ≤ 16) : Rect S1x4x256x2048 :=
  Rect.unit (s := S1x4x256x2048) ![0, g, 0, 0] (Svt4 n).size (inbVt hg hn)
/-- The queries of a group. -/
abbrev rQc {h g : Nat} (hh : h < 2) (hg : g < 4) : Rect S1x1x2x4x512x256 :=
  Rect.unit (s := S1x1x2x4x512x256) ![0, 0, h, g, 0, 0] S1x1x1x1x512x256.size (inbQc hh hg)
/-- The key scales of a tile. -/
abbrev rKs {g k : Nat} (hg : g < 4) (hk : k < 16) : Rect S1x4x2048x128 :=
  Rect.unit (s := S1x4x2048x128) ![0, g, k * 128, 0] S1x1x128x128.size (inbKs hg hk)
/-- The query scales of a head. -/
abbrev rQs {h r : Nat} (hh : h < 2) (hr : r < 16) : Rect S1x1x2x16x128 :=
  Rect.unit (s := S1x1x2x16x128) ![0, 0, h, r, 0] S1x1x1x1x128.size (inbQs hh hr)
/-- The value scales of a group. -/
abbrev rVs {g : Nat} (hg : g < 4) : Rect S1x4x1x256 :=
  Rect.unit (s := S1x4x1x256) ![0, g, 0, 0] S1x1x1x256.size (inbVs hg)
/-- The columns of a head in the result. -/
abbrev rO {h r : Nat} (hh : h < 2) (hr : r + 256 ≤ 4096) : Rect S1x2x128x4096 :=
  Rect.unit (s := S1x2x128x4096) ![0, h, 0, r] S1x1x128x256.size (inbO hh hr)

theorem packS {h k c : Nat} (hh : h < 2) (hk : k < 16) (hc : c < 4) :
    (rS hh hk hc).PackedRows (EltTy.packing .fp8e4m3) := by
  refine .inr ⟨by decide, rfl, .inl ⟨?_, ?_⟩⟩
  · show 4 ∣ k * 128
    omega
  · show 4 ∣ 128
    decide

theorem packO {h r : Nat} (hh : h < 2) (hr : r + 256 ≤ 4096) :
    (rO hh hr).PackedRows (EltTy.packing .bf16) := by
  refine .inr ⟨by decide, rfl, .inl ⟨?_, ?_⟩⟩
  · show 2 ∣ 0
    decide
  · show 2 ∣ 128
    decide

theorem sliceSk {n k c : Nat} (hk : k < n) (hc : c < 4) : (Sk n).Slices ![k * 128, c * 128] S128x128 :=
  ⟨rfl, by intro a; fin_cases a <;> simp [S128x128] <;> omega⟩

theorem sliceO {c : Nat} (hc : c < 4) : S256x512.Slices ![0, c * 128] S256x128 :=
  ⟨rfl, by intro a; fin_cases a <;> simp [S256x128, S256x512] <;> omega⟩

theorem castKc (n : Nat) : (Skc4 n).ShapeCasts (Skc n) := by
  simp [Shape.ShapeCasts, Shape.numel, Fin.prod_univ_succ]

theorem castVt (n : Nat) : (Svt4 n).ShapeCasts (Svt n) := by
  simp [Shape.ShapeCasts, Shape.numel, Fin.prod_univ_succ]

theorem posKc (m : Nat) : 0 < (Skc4 (m + 1)).numel := by
  simp [Shape.numel, Fin.prod_univ_succ]

theorem posVt (m : Nat) : 0 < (Svt4 (m + 1)).numel := by
  simp [Shape.numel, Fin.prod_univ_succ]

theorem catRows (m : Nat) (l : List (FVec F S128x512 .fp8e4m3)) (hl : l.length = m + 2) :
    Shape.Concatenates ((l.map fun v => (⟨S128x512, v⟩ : (s : Shape) × (s.Idx → F .fp8e4m3))).map (·.1)) (Sk (m + 2)) 0 := by
  have e : (l.map fun v => (⟨S128x512, v⟩ : (s : Shape) × (s.Idx → F .fp8e4m3))).map (·.1) = List.replicate (m + 2) S128x512 := by
    rw [List.map_map, List.eq_replicate_iff]
    exact ⟨by simp [hl], by intro b hb; simp at hb; exact hb.2.symm⟩
  rw [e]
  refine ⟨by simp, ?_, ?_⟩
  · intro s hs
    obtain rfl := List.eq_of_mem_replicate hs
    refine ⟨rfl, fun b hb => ?_⟩
    fin_cases b
    · exact absurd rfl hb
    · rfl
  · simp [S128x512]

section

variable (arg2 : Memref sig .tc .vmem S1x1x2x4x512x256 .fp8e4m3) (arg3 : Memref sig .tc .vmem S1x1x2x16x128 .f32)
  (arg4 : Memref sig .tc .vmem S1x4x2048x256 .fp8e4m3) (arg5 : Memref sig .tc .vmem S1x4x2048x128 .f32)
  (arg6 : Memref sig .tc .vmem S1x4x256x2048 .fp8e4m3) (arg7 : Memref sig .tc .vmem S1x4x1x256 .f32)
  (arg8 : Memref sig .tc .vmem S1x2x128x4096 .bf16) (harg8 : arg8.IsWhole)
  (arg9 : Memref sig .tc .vmem S2x2048x512 .f32) (arg10 : Memref sig .tc .vmem S2x4x1x128 .f32)
  (arg11 : Memref sig .tc .vmem S2x2048x512 .fp8e4m3) (harg11 : arg11.IsWhole)

/-- The scaled scores of a tile, masked on the diagonal one. -/
def tileVal {n k c : Nat} (hk : k < n) (hc : c < 4) (last : Bool) (sc : FVec F (Sk n) .f32) (ks : FVec F S128x128 .f32) : FVec F S128x128 .f32 :=
  match last with
  | false => mulf (extractStridedSlice S128x128 ![k * 128, c * 128] sc (sliceSk hk hc)) ks
  | true => select (cmpi .sle (iota .tc S128x128 32 [0] iota_S128x128_d0_w32) (iota .tc S128x128 32 [1] iota_S128x128_d1_w32))
      (mulf (extractStridedSlice S128x128 ![k * 128, c * 128] sc (sliceSk hk hc)) ks)
      (broadcast S128x128 (Scalar.ofBits .f32 0xFF800000#32))

/-- The maxima of a tile over its rows, eight at a time. -/
def tileMax (t : FVec F S128x128 .f32) : FVec F S8x128 .f32 :=
  multiReduction .maximumf [0] S8x128 (shapeCast S16x8x128 t shapeCasts_S128x128_S16x8x128) 0xFF800000#32 reduces_S16x8x128_S8x128 (.inl rfl) rfl

/-- One head of a tile of scores. -/
def scoreHead {n h k c : Nat} (hh : h < 2) (hk : k < n) (hn : n ≤ 16) (hc : c < 4) (last : Bool) (sc : FVec F (Sk n) .f32)
    (ks : FVec F S128x128 .f32) (K : FVec F S8x128 .f32 → PG (F := F) PUnit) : PG (F := F) PUnit :=
  .op (.load arg9 (rS hh (Nat.lt_of_lt_of_le hk hn) hc).toLoadRect (View.loadsAt_vmem h_S1x128x128)) fun _ =>
  .op (.store arg9 (rS hh (Nat.lt_of_lt_of_le hk hn) hc) (shapeCast S1x128x128 (tileVal hk hc last sc ks) shapeCasts_S128x128_S1x128x128)
    Finset.univ (View.stores_vmem_bits_univ h_S1x128x128 rfl) (.inl rfl)) fun _ =>
  K (tileMax (tileVal hk hc last sc ks))

/-- A tile of scores: its four heads. -/
def scoreTile {n h g k : Nat} (hh : h < 2) (hg : g < 4) (hk : k < n) (hn : n ≤ 16) (last : Bool) (sc : FVec F (Sk n) .f32)
    (K : (Fin 4 → FVec F S8x128 .f32) → PG (F := F) PUnit) : PG (F := F) PUnit :=
  .op (.load arg5 (rKs hg (Nat.lt_of_lt_of_le hk hn)).toLoadRect (View.loadsAt_vmem h_S1x1x128x128)) fun ks =>
  scoreHead arg9 (c := 0) hh hk hn (by omega) last sc (shapeCast S128x128 ks shapeCasts_S1x1x128x128_S128x128) fun a =>
  scoreHead arg9 (c := 1) hh hk hn (by omega) last sc (shapeCast S128x128 ks shapeCasts_S1x1x128x128_S128x128) fun b =>
  scoreHead arg9 (c := 2) hh hk hn (by omega) last sc (shapeCast S128x128 ks shapeCasts_S1x1x128x128_S128x128) fun c =>
  scoreHead arg9 (c := 3) hh hk hn (by omega) last sc (shapeCast S128x128 ks shapeCasts_S1x1x128x128_S128x128) fun d =>
  K ![a, b, c, d]

/-- The tiles after the first, with the maxima so far. -/
def scoreTiles {n h g : Nat} (hh : h < 2) (hg : g < 4) (hn : n ≤ 16) (sc : FVec F (Sk n) .f32)
    (K : (Fin 4 → FVec F S8x128 .f32) → PG (F := F) PUnit) :
    (r k : Nat) → k + r = n → (Fin 4 → FVec F S8x128 .f32) → PG (F := F) PUnit
  | 0, _, _, m => K m
  | r + 1, k, e, m =>
    scoreTile arg5 arg9 hh hg (k := k) (by omega) hn (Nat.beq r 0) sc fun t =>
    scoreTiles hh hg hn sc K r (k + 1) (by omega) fun j => maximumf (m j) (t j)

/-- Store the maximum of a head. -/
def storeMax {h c : Nat} (hh : h < 2) (hc : c < 4) (m : FVec F S8x128 .f32) (K : PG (F := F) PUnit) : PG (F := F) PUnit :=
  .op (.load arg10 (rM hh hc).toLoadRect (View.loadsAt_vmem h_S1x1x1x128)) fun _ =>
  .op (.store arg10 (rM hh hc) (shapeCast S1x1x1x128 (shapeCast S1x128 (multiReduction .maximumf [0] S128 m 0xFF800000#32 reduces_S8x128_S128 (.inl rfl) rfl)
    shapeCasts_S128_S1x128) shapeCasts_S1x128_S1x1x1x128) Finset.univ (View.stores_vmem_bits_univ h_S1x1x1x128 rfl) (.inl rfl)) fun _ =>
  K

/-- The products of keys and queries. -/
def dots {n : Nat} (kc : Vec F (Skc4 n) .fp8e4m3) (qc : Vec F S1x1x1x1x512x256 .fp8e4m3) : FVec F (Sk n) .f32 :=
  matmul (φ₁ := .fp8e4m3) (φ₂ := .fp8e4m3) (DotDims.transposedRhs (n * 128) 256 512) none (shapeCast (Skc n) kc (castKc n)) (shapeCast S512x256 qc shapeCasts_S1x1x1x1x512x256_S512x256)
    (constant (Sk n) .f32 0x00000000#32)

/-- The scores of one half: `m + 1` tiles of keys. -/
def scores {h g : Nat} (m : Nat) (hh : h < 2) (hg : g < 4) (hn : m + 1 ≤ 16) (K : PG (F := F) PUnit) : PG (F := F) PUnit :=
  .op (.load arg4 (rKc hg hn).toLoadRect (View.loadsAt_vmem (posKc m))) fun kc =>
  .op (.load arg2 (rQc hh hg).toLoadRect (View.loadsAt_vmem h_S1x1x1x1x512x256)) fun qc =>
  scoreTile arg5 arg9 hh hg (k := 0) (by omega) hn (Nat.beq m 0) (dots kc qc) fun t =>
  scoreTiles arg5 arg9 hh hg hn (dots kc qc) (fun t =>
    storeMax arg10 (c := 0) hh (by omega) (t 0) <|
    storeMax arg10 (c := 1) hh (by omega) (t 1) <|
    storeMax arg10 (c := 2) hh (by omega) (t 2) <|
    storeMax arg10 (c := 3) hh (by omega) (t 3) K) m 1 (by omega) t

/-- The weights of a tile. -/
def tileP (s : Vec F S1x128x128 .f32) (c sh : FVec F S1x128 .f32) : FVec F S128x128 .f32 :=
  exp2 (subf (mulf (shapeCast S128x128 s shapeCasts_S1x128x128_S128x128) (broadcastTo S128x128 c broadcasts_S1x128_S128x128))
    (broadcastTo S128x128 sh broadcasts_S1x128_S128x128))

/-- The codes of the weights of a tile. -/
def tileCodes (p : FVec F S128x128 .f32) : FVec F S1x128x128 .fp8e4m3 :=
  shapeCast S1x128x128 (truncf .fp8e4m3 (minimumf (broadcast S128x128 (Scalar.ofBits .f32 0x43E00000#32))
    (maximumf (broadcast S128x128 (Scalar.ofBits .f32 0x00000000#32)) p)) bitsLt_fp8e4m3_f32) shapeCasts_S128x128_S1x128x128

/-- The sums of the weights of a tile over its rows, eight at a time. -/
def tileSum (p : FVec F S128x128 .f32) : FVec F S8x128 .f32 :=
  multiReduction .add [0] S8x128 (shapeCast S16x8x128 p shapeCasts_S128x128_S16x8x128) 0x00000000#32 reduces_S16x8x128_S8x128 (.inl rfl) rfl

/-- The weights of the tiles of a head, stored as codes; their sums. -/
def weightTiles {n h c : Nat} (hh : h < 2) (hc : c < 4) (hn : n ≤ 16) (qs sh : FVec F S1x128 .f32) (K : FVec F S8x128 .f32 → PG (F := F) PUnit) :
    (r k : Nat) → k + r = n → FVec F S8x128 .f32 → PG (F := F) PUnit
  | 0, _, _, l => K l
  | r + 1, k, e, l =>
    .op (.load arg9 (rS (k := k) hh (by omega) hc).toLoadRect (View.loadsAt_vmem h_S1x128x128)) fun s =>
    .op (.load arg11 (rS (k := k) hh (by omega) hc).toLoadRect (View.loadsAt_vmem h_S1x128x128)) fun _ =>
    .op (.store arg11 (rS (k := k) hh (by omega) hc) (tileCodes (tileP s qs sh))
      Finset.univ (View.stores_vmem h_S1x128x128 (harg11.storeExact_slice rfl _ (packS hh (by omega) hc)) (fun _ => rfl)) (.inl rfl)) fun _ =>
    weightTiles hh hc hn qs sh K r (k + 1) (by omega) (addf l (tileSum (tileP s qs sh)))

/-- The shift of the exponents of a head. -/
def shiftOf (qs mm : FVec F S1x128 .f32) : FVec F S1x128 .f32 :=
  subf (mulf mm qs) (broadcast S1x128 (Scalar.ofBits .f32 0x41000000#32))

/-- The weights of a head, and the row of their sums. -/
def weights {h c : Nat} (g : BitVec 32) (m : Nat) (hh : h < 2) (hc : c < 4) (hr : (Scalar.indexCast (Scalar.addi (Scalar.muli g 4#32) (BitVec.ofNat 32 c)) : Index).toNat < 16) (hn : m + 1 ≤ 16)
    (K : FVec F S1x128 .f32 → PG (F := F) PUnit) : PG (F := F) PUnit :=
  .op (.load arg3 (rQs hh hr).toLoadRect (View.loadsAt_vmem h_S1x1x1x1x128)) fun qs =>
  .op (.load arg10 (rM hh hc).toLoadRect (View.loadsAt_vmem h_S1x1x1x128)) fun mm =>
  weightTiles arg9 arg11 harg11 hh hc hn (shapeCast S1x128 qs shapeCasts_S1x1x1x1x128_S1x128)
    (shiftOf (shapeCast S1x128 qs shapeCasts_S1x1x1x1x128_S1x128) (shapeCast S1x128 mm shapeCasts_S1x1x1x128_S1x128))
    (fun l => K (shapeCast S1x128 (multiReduction .add [0] S128 l 0x00000000#32 reduces_S8x128_S128 (.inl rfl) rfl) shapeCasts_S128_S1x128))
    (m + 1) 0 (by omega) (broadcast S8x128 (Scalar.ofBits .f32 0x00000000#32))

/-- Four tiles of codes side by side. -/
def rowVal (a b c d : Vec F S1x128x128 .fp8e4m3) : FVec F S128x512 .fp8e4m3 :=
  concatenate S128x512 1 [⟨S128x128, shapeCast S128x128 a shapeCasts_S1x128x128_S128x128⟩, ⟨S128x128, shapeCast S128x128 b shapeCasts_S1x128x128_S128x128⟩,
    ⟨S128x128, shapeCast S128x128 c shapeCasts_S1x128x128_S128x128⟩, ⟨S128x128, shapeCast S128x128 d shapeCasts_S1x128x128_S128x128⟩]
    concatenates_S128x128_S128x128_S128x128_S128x128_S128x512_d1

/-- A row of tiles of the codes of the weights. -/
def row {h k : Nat} (hh : h < 2) (hk : k < 16) (K : FVec F S128x512 .fp8e4m3 → PG (F := F) PUnit) : PG (F := F) PUnit :=
  .op (.load arg11 (rS (c := 0) hh hk (by omega)).toLoadRect (View.loadsAt_vmem h_S1x128x128)) fun a =>
  .op (.load arg11 (rS (c := 1) hh hk (by omega)).toLoadRect (View.loadsAt_vmem h_S1x128x128)) fun b =>
  .op (.load arg11 (rS (c := 2) hh hk (by omega)).toLoadRect (View.loadsAt_vmem h_S1x128x128)) fun c =>
  .op (.load arg11 (rS (c := 3) hh hk (by omega)).toLoadRect (View.loadsAt_vmem h_S1x128x128)) fun d =>
  K (rowVal a b c d)

/-- The rows of tiles from the `k`-th on. -/
def rows {n h : Nat} (hh : h < 2) (hn : n ≤ 16) : (r k : Nat) → k + r = n →
    ({l : List (FVec F S128x512 .fp8e4m3) // l.length = r} → PG (F := F) PUnit) → PG (F := F) PUnit
  | 0, _, _, K => K ⟨[], rfl⟩
  | r + 1, k, e, K =>
    row arg11 (k := k) hh (by omega) fun v =>
    rows hh hn r (k + 1) (by omega) fun l => K ⟨v :: l.1, congrArg Nat.succ l.2⟩

/-- The codes of the weights, from one row of tiles or from several. -/
def codesVal : (m : Nat) → (l : List (FVec F S128x512 .fp8e4m3)) → l.length = m + 1 → FVec F (Sk (m + 1)) .fp8e4m3
  | 0, l, hl => fun j => l[0] j
  | m + 1, l, hl => concatenate (Sk (m + 2)) 0 (l.map fun v => ⟨S128x512, v⟩) (catRows m l hl)

/-- All the codes of the weights. -/
def codes {h : Nat} (hh : h < 2) (m : Nat) (hn : m + 1 ≤ 16) (K : FVec F (Sk (m + 1)) .fp8e4m3 → PG (F := F) PUnit) : PG (F := F) PUnit :=
  rows arg11 hh hn (m + 1) 0 (by omega) fun l => K (codesVal m l.1 l.2)

/-- The products of values and codes. -/
def mix {n : Nat} (vt : Vec F (Svt4 n) .fp8e4m3) (p : FVec F (Sk n) .fp8e4m3) : FVec F S256x512 .f32 :=
  matmul (φ₁ := .fp8e4m3) (φ₂ := .fp8e4m3) (DotDims.plain 256 (n * 128) 512) none (shapeCast (Svt n) vt (castVt _)) p (constant S256x512 .f32 0x00000000#32)

/-- The result of a head. -/
def outVal {c : Nat} (hc : c < 4) (ot : FVec F S256x512 .f32) (l : FVec F S1x128 .f32) (vs : FVec F S1x256 .f32) : FVec F S1x1x128x256 .bf16 :=
  shapeCast S1x1x128x256 (truncf .bf16 (mulf (transpose S128x256 [1, 0] (divf (extractStridedSlice S256x128 ![0, c * 128] ot (sliceO hc))
    (broadcastTo S256x128 l broadcasts_S1x128_S256x128)) transposes_S256x128_p1_0_S128x256) (broadcastTo S128x256 vs broadcasts_S1x256_S128x256)) bitsLt_bf16_f32)
    shapeCasts_S128x256_S1x1x128x256

/-- Store the result of a head. -/
def storeOut {h c : Nat} (g : BitVec 32) (hh : h < 2) (hc : c < 4) (hr : (Scalar.indexCast (Scalar.muli (Scalar.addi (Scalar.muli g 4#32) (BitVec.ofNat 32 c)) 256#32) : Index).toNat + 256 ≤ 4096)
    (ot : FVec F S256x512 .f32) (l : FVec F S1x128 .f32) (vs : FVec F S1x256 .f32) (K : PG (F := F) PUnit) : PG (F := F) PUnit :=
  .op (.load arg8 (rO hh hr).toLoadRect (View.loadsAt_vmem h_S1x1x128x256)) fun _ =>
  .op (.store arg8 (rO hh hr) (outVal hc ot l vs) Finset.univ
    (View.stores_vmem h_S1x1x128x256 (harg8.storeExact_slice rfl _ (packO hh hr)) (fun _ => rfl)) (.inl rfl)) fun _ =>
  K

/-- The bounds on the offsets that depend on the group. -/
structure Bd (g : BitVec 32) : Prop where
  g4 : (Scalar.indexCast g : Index).toNat < 4
  q : ∀ c < 4, (Scalar.indexCast (Scalar.addi (Scalar.muli g 4#32) (BitVec.ofNat 32 c)) : Index).toNat < 16
  o : ∀ c < 4, (Scalar.indexCast (Scalar.muli (Scalar.addi (Scalar.muli g 4#32) (BitVec.ofNat 32 c)) 256#32) : Index).toNat + 256 ≤ 4096

/-- The outputs of one half. -/
def outputs {h : Nat} (g : BitVec 32) (m : Nat) (hh : h < 2) (hg : Bd g) (hn : m + 1 ≤ 16) (K : PG (F := F) PUnit) : PG (F := F) PUnit :=
  weights arg3 arg9 arg10 arg11 harg11 (c := 0) g m hh (by omega) (hg.q 0 (by omega)) hn fun l0 =>
  weights arg3 arg9 arg10 arg11 harg11 (c := 1) g m hh (by omega) (hg.q 1 (by omega)) hn fun l1 =>
  weights arg3 arg9 arg10 arg11 harg11 (c := 2) g m hh (by omega) (hg.q 2 (by omega)) hn fun l2 =>
  weights arg3 arg9 arg10 arg11 harg11 (c := 3) g m hh (by omega) (hg.q 3 (by omega)) hn fun l3 =>
  codes arg11 hh m hn fun p =>
  .op (.load arg6 (rVt hg.g4 hn).toLoadRect (View.loadsAt_vmem (posVt m))) fun vt =>
  .op (.load arg7 (rVs hg.g4).toLoadRect (View.loadsAt_vmem h_S1x1x1x256)) fun vs =>
  storeOut arg8 harg8 (c := 0) g hh (by omega) (hg.o 0 (by omega)) (mix vt p) l0 (shapeCast S1x256 vs shapeCasts_S1x1x1x256_S1x256) <|
  storeOut arg8 harg8 (c := 1) g hh (by omega) (hg.o 1 (by omega)) (mix vt p) l1 (shapeCast S1x256 vs shapeCasts_S1x1x1x256_S1x256) <|
  storeOut arg8 harg8 (c := 2) g hh (by omega) (hg.o 2 (by omega)) (mix vt p) l2 (shapeCast S1x256 vs shapeCasts_S1x1x1x256_S1x256) <|
  storeOut arg8 harg8 (c := 3) g hh (by omega) (hg.o 3 (by omega)) (mix vt p) l3 (shapeCast S1x256 vs shapeCasts_S1x1x1x256_S1x256) K

/-- One group of heads at a step that has `m + 1` and `m + 9` tiles of keys. -/
def attend (g : BitVec 32) (m : Nat) (hg : Bd g) (hm : m < 8) : PG (F := F) PUnit :=
  scores arg2 arg4 arg5 arg9 arg10 (h := 0) m (by omega) hg.g4 (by omega) <|
  scores arg2 arg4 arg5 arg9 arg10 (h := 1) (m + 8) (by omega) hg.g4 (by omega) <|
  outputs arg3 arg6 arg7 arg8 harg8 arg9 arg10 arg11 harg11 (h := 0) g m (by omega) hg (by omega) <|
  outputs arg3 arg6 arg7 arg8 harg8 arg9 arg10 arg11 harg11 (h := 1) g (m + 8) (by omega) hg (by omega) <|
  .ret ⟨⟩

end

/-- The group of the `j`-th trip. -/
abbrev grp (j : Nat) : BitVec 32 := Scalar.addi 0#32 (Scalar.muli (Scf.iv 0#32 1#32 j) 1#32)

theorem bd (j : Nat) (hj : j < 4) : Bd (grp j) := by
  have : j = 0 ∨ j = 1 ∨ j = 2 ∨ j = 3 := by omega
  rcases this with rfl | rfl | rfl | rfl <;> exact ⟨by decide, by decide, by decide⟩

end Cert.KernelIdeal.Attend
-- ==== Proof.Values.lean ====
/- What the body computes from the tiles it loads, element by element, at the ideal values. -/
module

public import proofs.«01_k».proof.Proof.Attend
public import Idealize.ShloMosaic.PureOps.Ideal.Laws
public import Idealize.ShloMosaic.Lib.MatmulPlain
public import Idealize.ShloMosaic.Lib.ValueIdxRank6
public import Idealize.ShloMosaic.Lib.Pointwise
public import Idealize.ShloMosaic.Lib.ValueLayout

@[expose] public section

noncomputable section

namespace Cert.KernelIdeal.Attend

open Idealize.ShloMosaic Idealize.SL.Sem

variable [Facts]

open Facts Shapes1.Facts₀ K0.Facts₀

/-- An array read at natural coordinates, zero outside. -/
def nat {sh : Shape} (x : sh.Idx → EReal) (p : Fin sh.rank → ℕ) : EReal :=
  if h : ∀ a, p a < sh.size a then x fun a => ⟨p a, h a⟩ else 0

theorem nat_eq {sh : Shape} (x : sh.Idx → EReal) (p : Fin sh.rank → ℕ) (y : sh.Idx) (h : ∀ a, p a = (y a).val) : nat x p = x y := by
  have h' : ∀ a, p a < sh.size a := fun a => (h a).symm ▸ (y a).isLt
  rw [nat, dif_pos h']
  exact congrArg x (funext fun a => Fin.ext (h a))

theorem dots_apply {n : Nat} (kc : Vec Ideal (Skc4 n) .fp8e4m3) (qc : Vec Ideal S1x1x1x1x512x256 .fp8e4m3) (i : Fin (n * 128)) (j : Fin 512) :
    dots kc qc (ValueIdx.ix2 i j) = ∑ d : Fin 256, (kc (ValueIdx.ix4 (0 : Fin 1) (0 : Fin 1) i d) * qc (ValueIdx.ix6 (0 : Fin 1) (0 : Fin 1) (0 : Fin 1) (0 : Fin 1) j d) : EReal) := by
  unfold dots matmul
  rw [Ideal.matmul_transposedRhs_apply]
  rw [show (constant (F := Ideal) (Sk n) .f32 0x00000000#32 (ValueIdx.ix2 i j) : EReal) = 0 from Ideal.ofBits_zero_f32, zero_add]
  refine Finset.sum_congr rfl fun d _ => ?_
  congr 1
  · refine shapeCast_apply _ _ _ _ ?_
    rw [Shape.rowMajor_val_four, Shape.rowMajor_val_two]
    show ((0 * 1 + 0) * (n * 128) + i.val) * 256 + d.val = i.val * 256 + d.val
    omega
  · refine shapeCast_apply _ _ _ _ ?_
    rw [Shape.rowMajor_val_six, Shape.rowMajor_val_two]
    show ((((0 * 1 + 0) * 1 + 0) * 1 + 0) * 512 + j.val) * 256 + d.val = j.val * 256 + d.val
    omega

theorem neg_inf : (Scalar.ofBits (F := Ideal) .f32 0xFF800000#32 : EReal) = ⊥ := by
  show Ideal.ofBits .f32 0xFF800000#32 = ⊥
  simp [Ideal.ofBits, Ideal.ieee]

/-- The order of two coordinates, as their words compare. -/
theorem sle_ofNat (a b : ℕ) (ha : a < 2 ^ 31) (hb : b < 2 ^ 31) :
    IntOp.cmpi .sle (BitVec.ofNat 32 a) (BitVec.ofNat 32 b) = 1#1 ↔ a ≤ b := by
  have ea : (BitVec.ofNat 32 a).toInt = a := by
    rw [BitVec.toInt_eq_toNat_of_lt (by rw [BitVec.toNat_ofNat]; omega), BitVec.toNat_ofNat, Nat.mod_eq_of_lt (by omega)]
  have eb : (BitVec.ofNat 32 b).toInt = b := by
    rw [BitVec.toInt_eq_toNat_of_lt (by rw [BitVec.toNat_ofNat]; omega), BitVec.toNat_ofNat, Nat.mod_eq_of_lt (by omega)]
  show BitVec.ofBool (decide ((BitVec.ofNat 32 a).toInt ≤ (BitVec.ofNat 32 b).toInt)) = 1#1 ↔ a ≤ b
  rw [ea, eb]
  by_cases h : a ≤ b <;> simp [h]

theorem tileVal_apply {n k c : Nat} (hk : k < n) (hc : c < 4) (last : Bool) (sc : FVec Ideal (Sk n) .f32) (ks : FVec Ideal S128x128 .f32)
    (i j : Fin 128) :
    tileVal hk hc last sc ks (ValueIdx.ix2 i j) =
      if last = true ∧ ¬ i.val ≤ j.val then (⊥ : EReal)
      else sc (ValueIdx.ix2 (⟨k * 128 + i.val, by omega⟩ : Fin (n * 128)) (⟨c * 128 + j.val, by omega⟩ : Fin 512)) * ks (ValueIdx.ix2 i j) := by
  have e : extractStridedSlice S128x128 ![k * 128, c * 128] sc (sliceSk hk hc) (ValueIdx.ix2 i j)
      = sc (ValueIdx.ix2 (⟨k * 128 + i.val, by omega⟩ : Fin (n * 128)) (⟨c * 128 + j.val, by omega⟩ : Fin 512)) :=
    extractStridedSlice_apply _ _ _ _ _ fun a => by fin_cases a <;> rfl
  cases last with
  | false =>
    rw [if_neg (by simp)]
    show extractStridedSlice S128x128 ![k * 128, c * 128] sc (sliceSk hk hc) (ValueIdx.ix2 i j) * ks (ValueIdx.ix2 i j) = _
    rw [e]
  | true =>
    show Scalar.select (IntOp.cmpi .sle (iota .tc S128x128 32 [0] iota_S128x128_d0_w32 (ValueIdx.ix2 i j)) (iota .tc S128x128 32 [1] iota_S128x128_d1_w32 (ValueIdx.ix2 i j)))
      (extractStridedSlice S128x128 ![k * 128, c * 128] sc (sliceSk hk hc) (ValueIdx.ix2 i j) * ks (ValueIdx.ix2 i j) : EReal) (Scalar.ofBits (F := Ideal) .f32 0xFF800000#32) = _
    rw [e, neg_inf]
    have h0 : iota .tc S128x128 32 [0] iota_S128x128_d0_w32 (ValueIdx.ix2 i j) = BitVec.ofNat 32 i.val := by
      show BitVec.ofNat 32 (0 * 128 + i.val) = _
      rw [Nat.zero_mul, Nat.zero_add]
    have h1 : iota .tc S128x128 32 [1] iota_S128x128_d1_w32 (ValueIdx.ix2 i j) = BitVec.ofNat 32 j.val := by
      show BitVec.ofNat 32 (0 * 128 + j.val) = _
      rw [Nat.zero_mul, Nat.zero_add]
    rw [h0, h1]
    unfold Scalar.select
    have hs := sle_ofNat i.val j.val (by omega) (by omega)
    by_cases h : i.val ≤ j.val
    · exact (if_pos (hs.mpr h)).trans (if_neg fun h' => h'.2 h).symm
    · exact (if_neg (fun h' => h (hs.mp h'))).trans (if_pos ⟨rfl, h⟩).symm

theorem fold_max_le (n : ℕ) (f : Fin n → EReal) (z : EReal) : (Finset.univ : Finset (Fin n)).fold max ⊥ f ≤ z ↔ ∀ i, f i ≤ z := by
  rw [Finset.fold_max_le]; simp

theorem tileMax_le (t : FVec Ideal S128x128 .f32) (a : Fin 8) (b : Fin 128) (z : EReal) :
    tileMax t (ValueIdx.ix2 a b) ≤ z ↔ ∀ i : Fin 16, t (ValueIdx.ix2 (⟨i.val * 8 + a.val, by omega⟩ : Fin 128) b) ≤ z := by
  have e2 : tileMax t (ValueIdx.ix2 a b) = (Finset.univ : Finset (Fin 16)).fold max (FloatOps.ofBits .f32 0xFF800000#32)
      (shapeCast S16x8x128 t shapeCasts_S128x128_S16x8x128 ∘ reduces_S16x8x128_S8x128.lift (ValueIdx.ix2 a b)) :=
    Ideal.multiReduction_maximumf_single _ _ _ _ _ _
  rw [e2]
  rw [show (FloatOps.ofBits (F := Ideal) .f32 0xFF800000#32 : EReal) = ⊥ from neg_inf]
  refine (fold_max_le _ _ z).trans (forall_congr' fun i => ?_)
  refine iff_of_eq (congrArg (· ≤ z) ?_)
  refine shapeCast_apply _ _ _ _ ?_
  rw [Shape.rowMajor_val_two, Shape.rowMajor_val_three]
  show (i.val * 8 + a.val) * 128 + b.val = (i.val * 8 + a.val) * 128 + b.val
  rfl

theorem tileSum_apply (t : FVec Ideal S128x128 .f32) (a : Fin 8) (b : Fin 128) :
    tileSum t (ValueIdx.ix2 a b) = ∑ i : Fin 16, (t (ValueIdx.ix2 (⟨i.val * 8 + a.val, by omega⟩ : Fin 128) b) : EReal) := by
  have e2 : tileSum t (ValueIdx.ix2 a b) = ∑ i : Fin 16, (shapeCast S16x8x128 t shapeCasts_S128x128_S16x8x128 (reduces_S16x8x128_S8x128.lift (ValueIdx.ix2 a b) i) : EReal) :=
    Ideal.multiReduction_add_single _ _ _ _ _ _
  rw [e2]
  refine Finset.sum_congr rfl fun i _ => ?_
  refine shapeCast_apply _ _ _ _ ?_
  rw [Shape.rowMajor_val_two, Shape.rowMajor_val_three]
  show (i.val * 8 + a.val) * 128 + b.val = (i.val * 8 + a.val) * 128 + b.val
  rfl

/-- The maxima of a head, as they are stored. -/
abbrev maxRow (m : FVec Ideal S8x128 .f32) : FVec Ideal S1x1x1x128 .f32 :=
  shapeCast S1x1x1x128 (shapeCast S1x128 (multiReduction .maximumf [0] S128 m 0xFF800000#32 reduces_S8x128_S128 (.inl rfl) rfl)
    shapeCasts_S128_S1x128) shapeCasts_S1x128_S1x1x1x128

theorem maxRow_le (m : FVec Ideal S8x128 .f32) (b : Fin 128) (z : EReal) :
    maxRow m (ValueIdx.ix4 (0 : Fin 1) (0 : Fin 1) (0 : Fin 1) b) ≤ z ↔ ∀ a : Fin 8, m (ValueIdx.ix2 a b) ≤ z := by
  have e1 : ∀ v : FVec Ideal S128 .f32, shapeCast S1x1x1x128 (shapeCast S1x128 v shapeCasts_S128_S1x128) shapeCasts_S1x128_S1x1x1x128
      (ValueIdx.ix4 (0 : Fin 1) (0 : Fin 1) (0 : Fin 1) b) = v (ValueIdx.ix1 b) := fun v => by
    rw [shapeCast_apply _ _ _ (ValueIdx.ix2 (0 : Fin 1) b) (by
      rw [Shape.rowMajor_val_four, Shape.rowMajor_val_two]
      show 0 * 128 + b.val = ((0 * 1 + 0) * 1 + 0) * 128 + b.val
      rfl)]
    exact shapeCast_apply _ _ _ _ (by
      rw [Shape.rowMajor_val_one, Shape.rowMajor_val_two]
      show b.val = 0 * 128 + b.val
      omega)
  have e2 : multiReduction .maximumf [0] S128 m 0xFF800000#32 reduces_S8x128_S128 (.inl rfl) rfl (ValueIdx.ix1 b)
      = (Finset.univ : Finset (Fin 8)).fold max (FloatOps.ofBits .f32 0xFF800000#32) (m ∘ reduces_S8x128_S128.lift (ValueIdx.ix1 b)) :=
    Ideal.multiReduction_maximumf_single _ _ _ _ _ _
  refine (iff_of_eq (congrArg (· ≤ z) ((e1 _).trans e2))).trans ?_
  rw [show (FloatOps.ofBits (F := Ideal) .f32 0xFF800000#32 : EReal) = ⊥ from neg_inf]
  refine (fold_max_le _ _ z).trans (forall_congr' fun i => iff_of_eq (congrArg (· ≤ z) (congrArg m ?_)))
  funext x
  match x with
  | ⟨0, _⟩ => rfl
  | ⟨1, _⟩ => rfl

/-- The sums of a head, as they are used. -/
abbrev sumRow (l : FVec Ideal S8x128 .f32) : FVec Ideal S1x128 .f32 :=
  shapeCast S1x128 (multiReduction .add [0] S128 l 0x00000000#32 reduces_S8x128_S128 (.inl rfl) rfl) shapeCasts_S128_S1x128

theorem sumRow_apply (l : FVec Ideal S8x128 .f32) (b : Fin 128) :
    sumRow l (ValueIdx.ix2 (0 : Fin 1) b) = ∑ a : Fin 8, (l (ValueIdx.ix2 a b) : EReal) := by
  have e1 : ∀ v : FVec Ideal S128 .f32, shapeCast S1x128 v shapeCasts_S128_S1x128 (ValueIdx.ix2 (0 : Fin 1) b) = v (ValueIdx.ix1 b) := fun v =>
    shapeCast_apply _ _ _ (ValueIdx.ix1 b) (by
      rw [Shape.rowMajor_val_one, Shape.rowMajor_val_two]
      show b.val = 0 * 128 + b.val
      omega)
  have e2 : multiReduction .add [0] S128 l 0x00000000#32 reduces_S8x128_S128 (.inl rfl) rfl (ValueIdx.ix1 b)
      = ∑ a : Fin 8, (l (reduces_S8x128_S128.lift (ValueIdx.ix1 b) a) : EReal) :=
    Ideal.multiReduction_add_single _ _ _ _ _ _
  refine ((e1 _).trans e2).trans ?_
  refine Finset.sum_congr rfl fun i _ => congrArg l ?_
  funext x
  match x with
  | ⟨0, _⟩ => rfl
  | ⟨1, _⟩ => rfl

theorem tileP_apply (s : Vec Ideal S1x128x128 .f32) (c sh : FVec Ideal S1x128 .f32) (i j : Fin 128) :
    tileP s c sh (ValueIdx.ix2 i j) = Ideal.exp2 ((s (ValueIdx.ix3 (0 : Fin 1) i j) : EReal) * c (ValueIdx.ix2 (0 : Fin 1) j) - sh (ValueIdx.ix2 (0 : Fin 1) j)) := by
  have e1 : shapeCast S128x128 s shapeCasts_S1x128x128_S128x128 (ValueIdx.ix2 i j) = s (ValueIdx.ix3 (0 : Fin 1) i j) :=
    shapeCast_apply _ _ _ _ (by
      rw [Shape.rowMajor_val_three, Shape.rowMajor_val_two]
      show (0 * 128 + i.val) * 128 + j.val = i.val * 128 + j.val
      omega)
  show Ideal.exp2 ((shapeCast S128x128 s shapeCasts_S1x128x128_S128x128 (ValueIdx.ix2 i j) : EReal)
      * broadcastTo S128x128 c broadcasts_S1x128_S128x128 (ValueIdx.ix2 i j) - broadcastTo S128x128 sh broadcasts_S1x128_S128x128 (ValueIdx.ix2 i j)) = _
  rw [e1, ValueIdx.broadcastTo_1b_ab_apply, ValueIdx.broadcastTo_1b_ab_apply]

/-- A weight clamped to the range of its codes. -/
def clampP (p : EReal) : EReal := min (Ideal.ofBits .f32 0x43E00000#32) (max (Ideal.ofBits .f32 0x00000000#32) p)

theorem tileCodes_apply (p : FVec Ideal S128x128 .f32) (i j : Fin 128) :
    tileCodes p (ValueIdx.ix3 (0 : Fin 1) i j) = clampP (p (ValueIdx.ix2 i j)) := by
  unfold tileCodes
  rw [shapeCast_apply _ _ _ (ValueIdx.ix2 i j) (by
      rw [Shape.rowMajor_val_three, Shape.rowMajor_val_two]
      show i.val * 128 + j.val = (0 * 128 + i.val) * 128 + j.val
      omega)]
  rfl

theorem rowVal_apply (v : Fin 4 → Vec Ideal S1x128x128 .fp8e4m3) (i : Fin 128) (q : Fin 4) (j : Fin 128) :
    rowVal (v 0) (v 1) (v 2) (v 3) (ValueIdx.ix2 i (⟨q.val * 128 + j.val, by omega⟩ : Fin 512)) = v q (ValueIdx.ix3 (0 : Fin 1) i j) := by
  have e : ∀ w : Vec Ideal S1x128x128 .fp8e4m3, shapeCast S128x128 w shapeCasts_S1x128x128_S128x128 (ValueIdx.ix2 i j) = w (ValueIdx.ix3 (0 : Fin 1) i j) := fun w =>
    shapeCast_apply _ _ _ _ (by
      rw [Shape.rowMajor_val_three, Shape.rowMajor_val_two]
      show (0 * 128 + i.val) * 128 + j.val = i.val * 128 + j.val
      omega)
  let xs : List ((s : Shape) × (s.Idx → EReal)) := [⟨S128x128, shapeCast S128x128 (v 0) shapeCasts_S1x128x128_S128x128⟩, ⟨S128x128, shapeCast S128x128 (v 1) shapeCasts_S1x128x128_S128x128⟩,
    ⟨S128x128, shapeCast S128x128 (v 2) shapeCasts_S1x128x128_S128x128⟩, ⟨S128x128, shapeCast S128x128 (v 3) shapeCasts_S1x128x128_S128x128⟩]
  have hc : Shape.Concatenates (xs.map (·.1)) S128x512 1 := concatenates_S128x128_S128x128_S128x128_S128x128_S128x512_d1
  have key : ∀ (k : ℕ) (hk : k < 4) (w : Vec Ideal S1x128x128 .fp8e4m3) (hw : xs[k]'hk = ⟨S128x128, shapeCast S128x128 w shapeCasts_S1x128x128_S128x128⟩)
      (hp : (((xs.take k).map (·.1)).map fun s => if h : s.rank = S128x512.rank then s.size ((1 : Fin 2).cast h.symm) else 0).sum = k * 128),
      concatenate S128x512 1 xs hc (ValueIdx.ix2 i (⟨k * 128 + j.val, by omega⟩ : Fin 512)) = w (ValueIdx.ix3 (0 : Fin 1) i j) := fun k hk w hw hp =>
    (concatenate_apply_piece (1 : Fin 2) xs hc (ValueIdx.ix2 i (⟨k * 128 + j.val, by omega⟩ : Fin 512)) k hk S128x128 _ hw rfl (k * 128) hp (ValueIdx.ix2 i j) (by
      intro b hb
      match b, hb with
      | ⟨0, _⟩, _ => rfl
      | ⟨1, _⟩, hb => exact absurd rfl hb) rfl).trans (e w)
  match q with
  | ⟨0, _⟩ => exact key 0 (by decide) (v 0) rfl rfl
  | ⟨1, _⟩ => exact key 1 (by decide) (v 1) rfl rfl
  | ⟨2, _⟩ => exact key 2 (by decide) (v 2) rfl rfl
  | ⟨3, _⟩ => exact key 3 (by decide) (v 3) rfl rfl

theorem codesVal_apply : ∀ (m : ℕ) (l : List (FVec Ideal S128x512 .fp8e4m3)) (hl : l.length = m + 1) (k : ℕ) (hk : k < m + 1) (i : Fin 128) (j : Fin 512),
    codesVal m l hl (ValueIdx.ix2 (⟨k * 128 + i.val, by omega⟩ : Fin ((m + 1) * 128)) j) = l[k] (ValueIdx.ix2 i j)
  | 0, l, hl, k, hk, i, j => by
    obtain rfl : k = 0 := by omega
    show l[0] _ = l[0] _
    refine congrArg l[0] (funext fun x => Fin.ext ?_)
    match x with
    | ⟨0, _⟩ => show 0 * 128 + i.val = i.val; omega
    | ⟨1, _⟩ => rfl
  | m + 1, l, hl, k, hk, i, j => by
    have hx : k < (l.map fun v => (⟨S128x512, v⟩ : (s : Shape) × (s.Idx → Ideal .fp8e4m3))).length := by rw [List.length_map]; omega
    have hp : ((((l.map fun v => (⟨S128x512, v⟩ : (s : Shape) × (s.Idx → Ideal .fp8e4m3))).take k).map (·.1)).map
        fun s => if h : s.rank = (Sk (m + 2)).rank then s.size ((0 : Fin 2).cast h.symm) else 0).sum = k * 128 := by
      rw [← List.map_take, List.map_map, List.map_map]
      refine (congrArg List.sum (List.map_congr_left (g := fun _ => 128) (fun _ _ => rfl))).trans ?_
      simp; omega
    refine concatenate_apply_piece (0 : Fin 2) (l.map fun v => (⟨S128x512, v⟩ : (s : Shape) × (s.Idx → Ideal .fp8e4m3))) (catRows m l hl) (ValueIdx.ix2 (⟨k * 128 + i.val, by omega⟩ : Fin ((m + 2) * 128)) j) k hx S128x512 l[k] (by simp) rfl (k * 128) hp (ValueIdx.ix2 i j) ?_ rfl
    intro b hb
    match b, hb with
    | ⟨0, _⟩, hb => exact absurd rfl hb
    | ⟨1, _⟩, _ => rfl

theorem mix_apply {n : Nat} (vt : Vec Ideal (Svt4 n) .fp8e4m3) (p : FVec Ideal (Sk n) .fp8e4m3) (d : Fin 256) (j : Fin 512) :
    mix vt p (ValueIdx.ix2 d j) = ∑ k : Fin (n * 128), (vt (ValueIdx.ix4 (0 : Fin 1) (0 : Fin 1) d k) * p (ValueIdx.ix2 k j) : EReal) := by
  unfold mix matmul
  rw [Ideal.matmul_plain_apply]
  rw [show (constant (F := Ideal) S256x512 .f32 0x00000000#32 (ValueIdx.ix2 d j) : EReal) = 0 from Ideal.ofBits_zero_f32, zero_add]
  refine Finset.sum_congr rfl fun k _ => ?_
  congr 1
  refine shapeCast_apply _ _ _ _ ?_
  rw [Shape.rowMajor_val_four, Shape.rowMajor_val_two]
  show ((0 * 1 + 0) * 256 + d.val) * (n * 128) + k.val = d.val * (n * 128) + k.val
  simp

theorem outVal_apply {c : Nat} (hc : c < 4) (ot : FVec Ideal S256x512 .f32) (l : FVec Ideal S1x128 .f32) (vs : FVec Ideal S1x256 .f32) (q : Fin 128) (d : Fin 256) :
    outVal hc ot l vs (ValueIdx.ix4 (0 : Fin 1) (0 : Fin 1) q d)
      = (Ideal.div (ot (ValueIdx.ix2 d (⟨c * 128 + q.val, by omega⟩ : Fin 512))) (l (ValueIdx.ix2 (0 : Fin 1) q)) * vs (ValueIdx.ix2 (0 : Fin 1) d) : EReal) := by
  unfold outVal
  rw [shapeCast_apply _ _ _ (ValueIdx.ix2 q d) (by
      rw [Shape.rowMajor_val_four, Shape.rowMajor_val_two]
      show q.val * 256 + d.val = ((0 * 1 + 0) * 128 + q.val) * 256 + d.val
      omega)]
  have e1 : extractStridedSlice S256x128 ![0, c * 128] ot (sliceO hc) (ValueIdx.ix2 d q) = ot (ValueIdx.ix2 d (⟨c * 128 + q.val, by omega⟩ : Fin 512)) :=
    extractStridedSlice_apply _ _ _ _ _ fun a => by
      match a with
      | ⟨0, _⟩ => show d.val = 0 + d.val; omega
      | ⟨1, _⟩ => rfl
  have e2 : transpose S128x256 [1, 0] (divf (extractStridedSlice S256x128 ![0, c * 128] ot (sliceO hc))
      (broadcastTo S256x128 l broadcasts_S1x128_S256x128)) transposes_S256x128_p1_0_S128x256 (ValueIdx.ix2 q d)
      = divf (extractStridedSlice S256x128 ![0, c * 128] ot (sliceO hc)) (broadcastTo S256x128 l broadcasts_S1x128_S256x128) (ValueIdx.ix2 d q) :=
    transpose_apply _ _ _ _ _ fun b => by
      match b with
      | ⟨0, _⟩ => rfl
      | ⟨1, _⟩ => rfl
  show (transpose S128x256 [1, 0] (divf (extractStridedSlice S256x128 ![0, c * 128] ot (sliceO hc))
      (broadcastTo S256x128 l broadcasts_S1x128_S256x128)) transposes_S256x128_p1_0_S128x256 (ValueIdx.ix2 q d)
      * broadcastTo S128x256 vs broadcasts_S1x256_S128x256 (ValueIdx.ix2 q d) : EReal) = _
  rw [e2, ValueIdx.broadcastTo_1b_ab_apply]
  show (Ideal.div (extractStridedSlice S256x128 ![0, c * 128] ot (sliceO hc) (ValueIdx.ix2 d q)) (broadcastTo S256x128 l broadcasts_S1x128_S256x128 (ValueIdx.ix2 d q)) * _ : EReal) = _
  rw [e1, ValueIdx.broadcastTo_1b_ab_apply]

end Cert.KernelIdeal.Attend
-- ==== Proof.Hoare.lean ====
/- What the body's loads and stores do to the contents of its buffers. -/
module

public import proofs.«01_k».proof.Proof.Attend
public import proofs.«01_k».proof.Proof.Gen.KernelIdeal.Frame.Runs

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The weakest precondition of a program of the kernel's core. -/
abbrev WP (c : Dev nD) (P : PG (F := F) PUnit) (Q : PUnit → sProp 𝕄) : sProp 𝕄 :=
  wp frame (wpE (defs₀ (F := F)) Variants.none c none) Set.univ P Q

theorem setOn_acc {sh : Shape} {e : EltTy} (m : Memref sig .tc .vmem sh e) (r : Rect sh) : (m.access r).set ⊆ m.view.set :=
  View.set_slice_subset _ _

/-- A load of a rectangle reads the contents there. -/
theorem wp_ld (c : Dev nD) {sh : Shape} {e : EltTy} (m : Memref sig .tc .vmem sh e) (d : sh.Idx → Elt F e) {r : Rect sh}
    {hl : m.view.LoadsAt r.toLoadRect} {k : (r.shape.Idx → Elt F e) → PG (F := F) PUnit} {Q : PUnit → sProp 𝕄} :
    owns (c : Thread nD τ) m fullShare d ⊢ iprop((owns (c : Thread nD τ) m fullShare d -∗ WP c (k fun x => d (r.emb x)) Q)
      -∗ WP c (.op (.load m r.toLoadRect hl) k) Q) := by
  unfold owns
  iintro ⟨%f, %hf, H⟩ Hk
  iapply (wp_load_rect (c := (c : Thread nD τ)) (m := m) (r := r) Variants.none none Set.univ (S := m.view.set) (q := fullShare) (f := f) (setOn_acc m r)) $$ H
  iintro H
  have e : (m.access r).read (Elt F) f = fun x => d (r.emb x) := by subst hf; rfl
  rw [e]
  iapply Hk
  iexists f
  isplitr
  · ipureintro; exact hf
  · iexact H

/-- Contents with a rectangle written. -/
def upd {sh : Shape} {α : Type} (d : sh.Idx → α) (r : Rect sh) (w : r.shape.Idx → α) (d' : sh.Idx → α) : Prop :=
  (∀ x, d' (r.emb x) = w x) ∧ ∀ y, y ∉ Finset.univ.map r.emb → d' y = d y

/-- A store of a rectangle writes the contents there and no other. -/
theorem wp_st (c : Dev nD) {sh : Shape} {e : EltTy} (m : Memref sig .tc .vmem sh e) (d : sh.Idx → Elt F e) {r : Rect sh}
    {w : r.shape.Idx → Elt F e} {hx : (m.access r).Stores Finset.univ} {hm : Finset.univ = Finset.univ ∨ ∀ a, r.stride a = 1}
    {k : PUnit → PG (F := F) PUnit} {Q : PUnit → sProp 𝕄} :
    owns (c : Thread nD τ) m fullShare d ⊢ iprop((∀ d', ⌜upd d r w d'⌝ -∗ owns (c : Thread nD τ) m fullShare d' -∗ WP c (k ⟨⟩) Q)
      -∗ WP c (.op (.store m r w Finset.univ hx hm) k) Q) := by
  unfold owns
  iintro ⟨%f, %hf, H⟩ Hk
  iapply (wp_store (c := (c : Thread nD τ)) (m := m) (r := r) Variants.none none Set.univ (S := m.view.set) (f := f) (Memref.setOn_access_subset m r Finset.univ)) $$ H
  iintro H
  iapply Hk $$ %(m.view.read (Elt F) ((m.access r).write (Elt F) f w Finset.univ)) [] [H]
  · ipureintro
    subst hf
    refine ⟨fun x => View.read_slice_write_emb _ _ _ (Finset.mem_univ x), fun y hy => View.read_slice_write_of_not_mem _ _ _ _ hy⟩
  · iexists _
    isplitr
    · ipureintro; rfl
    · iexact H

end Cert.KernelIdeal.Attend
-- ==== Proof.State.lean ====
/- What the kernel's memory holds during one grid step, and how a load or a store of it acts. -/
module

public import proofs.«01_k».proof.Proof.Hoare
public import Idealize.ShloMosaic.PureOps.Ideal.Laws
public import Idealize.ShloMosaic.Lib.ValueIdxRank6

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable [Facts]

open Facts Shapes1.Facts₀ K0.Facts₀

/-- The references of the body. -/
structure Mem where
  a2 : Memref sig .tc .vmem S1x1x2x4x512x256 .fp8e4m3
  a3 : Memref sig .tc .vmem S1x1x2x16x128 .f32
  a4 : Memref sig .tc .vmem S1x4x2048x256 .fp8e4m3
  a5 : Memref sig .tc .vmem S1x4x2048x128 .f32
  a6 : Memref sig .tc .vmem S1x4x256x2048 .fp8e4m3
  a7 : Memref sig .tc .vmem S1x4x1x256 .f32
  a8 : Memref sig .tc .vmem S1x2x128x4096 .bf16
  a9 : Memref sig .tc .vmem S2x2048x512 .f32
  a10 : Memref sig .tc .vmem S2x4x1x128 .f32
  a11 : Memref sig .tc .vmem S2x2048x512 .fp8e4m3

/-- What the operands hold. -/
structure In where
  x2 : S1x1x2x4x512x256.Idx → EReal
  x3 : S1x1x2x16x128.Idx → EReal
  x4 : S1x4x2048x256.Idx → EReal
  x5 : S1x4x2048x128.Idx → EReal
  x6 : S1x4x256x2048.Idx → EReal
  x7 : S1x4x1x256.Idx → EReal

/-- What the output and the scratches hold. -/
structure St where
  d8 : S1x2x128x4096.Idx → EReal
  d9 : S2x2048x512.Idx → EReal
  d10 : S2x4x1x128.Idx → EReal
  d11 : S2x2048x512.Idx → EReal

variable (c : Dev nD) (M : Mem) (X : In)

/-- One reference and its contents. -/
abbrev has (c : Dev nD) {sh : Shape} {e : EltTy} (m : Memref sig .tc .vmem sh e) (d : sh.Idx → Elt Ideal e) : sProp 𝕄 :=
  owns (c : Thread nD τ) m fullShare d

/-- The whole memory of a step. -/
def own (s : St) : sProp 𝕄 :=
  iprop(has c M.a2 X.x2 ∗ has c M.a3 X.x3 ∗ has c M.a4 X.x4 ∗ has c M.a5 X.x5 ∗ has c M.a6 X.x6 ∗ has c M.a7 X.x7
    ∗ has c M.a8 s.d8 ∗ has c M.a9 s.d9 ∗ has c M.a10 s.d10 ∗ has c M.a11 s.d11)

/-- A program is right from a state. -/
def Ok (s : St) (P : PG (F := Ideal) PUnit) (Q : PUnit → sProp 𝕄) : Prop := own c M X s ⊢ WP c P Q

theorem ld_of {sh : Shape} {e : EltTy} {m : Memref sig .tc .vmem sh e} {d : sh.Idx → Elt Ideal e} {P : sProp 𝕄}
    (h : P ⊢ iprop(has c m d ∗ (has c m d -∗ P))) {r : Rect sh} {hl : m.view.LoadsAt r.toLoadRect}
    {k : (r.shape.Idx → Elt Ideal e) → PG (F := Ideal) PUnit} {Q : PUnit → sProp 𝕄}
    (hk : P ⊢ WP c (k fun x => d (r.emb x)) Q) : P ⊢ WP c (.op (.load m r.toLoadRect hl) k) Q := by
  refine h.trans ?_
  iintro ⟨H, Hc⟩
  iapply (wp_ld c m d) $$ H
  iintro H
  ihave HP := Hc $$ H
  iapply hk $$ HP

theorem st_of {sh : Shape} {e : EltTy} {m : Memref sig .tc .vmem sh e} {d : sh.Idx → Elt Ideal e} {P : sProp 𝕄}
    {P' : (sh.Idx → Elt Ideal e) → sProp 𝕄}
    (h : P ⊢ iprop(has c m d ∗ (∀ d', has c m d' -∗ P' d'))) {r : Rect sh} {w : r.shape.Idx → Elt Ideal e}
    {hx : (m.access r).Stores Finset.univ} {hm : Finset.univ = Finset.univ ∨ ∀ a, r.stride a = 1}
    {k : PUnit → PG (F := Ideal) PUnit} {Q : PUnit → sProp 𝕄}
    (hk : ∀ d', upd d r w d' → P' d' ⊢ WP c (k ⟨⟩) Q) : P ⊢ WP c (.op (.store m r w Finset.univ hx hm) k) Q := by
  refine h.trans ?_
  iintro ⟨H, Hc⟩
  iapply (wp_st c m d) $$ H
  iintro %d' %hd H
  ihave HP := Hc $$ %d' H
  iapply (hk d' hd) $$ HP

theorem own_ld2 (s : St) : own c M X s ⊢ iprop(has c M.a2 X.x2 ∗ (has c M.a2 X.x2 -∗ own c M X s)) := by
  unfold own
  iintro ⟨H2, H3, H4, H5, H6, H7, H8, H9, H10, H11⟩
  isplitl [H2]
  · iexact H2
  · iintro H2
    iframe

theorem own_ld3 (s : St) : own c M X s ⊢ iprop(has c M.a3 X.x3 ∗ (has c M.a3 X.x3 -∗ own c M X s)) := by
  unfold own
  iintro ⟨H2, H3, H4, H5, H6, H7, H8, H9, H10, H11⟩
  isplitl [H3]
  · iexact H3
  · iintro H3
    iframe

theorem own_ld4 (s : St) : own c M X s ⊢ iprop(has c M.a4 X.x4 ∗ (has c M.a4 X.x4 -∗ own c M X s)) := by
  unfold own
  iintro ⟨H2, H3, H4, H5, H6, H7, H8, H9, H10, H11⟩
  isplitl [H4]
  · iexact H4
  · iintro H4
    iframe

theorem own_ld5 (s : St) : own c M X s ⊢ iprop(has c M.a5 X.x5 ∗ (has c M.a5 X.x5 -∗ own c M X s)) := by
  unfold own
  iintro ⟨H2, H3, H4, H5, H6, H7, H8, H9, H10, H11⟩
  isplitl [H5]
  · iexact H5
  · iintro H5
    iframe

theorem own_ld6 (s : St) : own c M X s ⊢ iprop(has c M.a6 X.x6 ∗ (has c M.a6 X.x6 -∗ own c M X s)) := by
  unfold own
  iintro ⟨H2, H3, H4, H5, H6, H7, H8, H9, H10, H11⟩
  isplitl [H6]
  · iexact H6
  · iintro H6
    iframe

theorem own_ld7 (s : St) : own c M X s ⊢ iprop(has c M.a7 X.x7 ∗ (has c M.a7 X.x7 -∗ own c M X s)) := by
  unfold own
  iintro ⟨H2, H3, H4, H5, H6, H7, H8, H9, H10, H11⟩
  isplitl [H7]
  · iexact H7
  · iintro H7
    iframe

theorem own_ld8 (s : St) : own c M X s ⊢ iprop(has c M.a8 s.d8 ∗ (has c M.a8 s.d8 -∗ own c M X s)) := by
  unfold own
  iintro ⟨H2, H3, H4, H5, H6, H7, H8, H9, H10, H11⟩
  isplitl [H8]
  · iexact H8
  · iintro H8
    iframe

theorem own_ld9 (s : St) : own c M X s ⊢ iprop(has c M.a9 s.d9 ∗ (has c M.a9 s.d9 -∗ own c M X s)) := by
  unfold own
  iintro ⟨H2, H3, H4, H5, H6, H7, H8, H9, H10, H11⟩
  isplitl [H9]
  · iexact H9
  · iintro H9
    iframe

theorem own_ld10 (s : St) : own c M X s ⊢ iprop(has c M.a10 s.d10 ∗ (has c M.a10 s.d10 -∗ own c M X s)) := by
  unfold own
  iintro ⟨H2, H3, H4, H5, H6, H7, H8, H9, H10, H11⟩
  isplitl [H10]
  · iexact H10
  · iintro H10
    iframe

theorem own_ld11 (s : St) : own c M X s ⊢ iprop(has c M.a11 s.d11 ∗ (has c M.a11 s.d11 -∗ own c M X s)) := by
  unfold own
  iintro ⟨H2, H3, H4, H5, H6, H7, H8, H9, H10, H11⟩
  isplitl [H11]
  · iexact H11
  · iintro H11
    iframe

theorem own_st8 (s : St) : own c M X s ⊢ iprop(has c M.a8 s.d8 ∗ (∀ d', has c M.a8 d' -∗ own c M X { s with d8 := d' })) := by
  unfold own
  iintro ⟨H2, H3, H4, H5, H6, H7, H8, H9, H10, H11⟩
  isplitl [H8]
  · iexact H8
  · iintro %d' H8
    iframe

theorem own_st9 (s : St) : own c M X s ⊢ iprop(has c M.a9 s.d9 ∗ (∀ d', has c M.a9 d' -∗ own c M X { s with d9 := d' })) := by
  unfold own
  iintro ⟨H2, H3, H4, H5, H6, H7, H8, H9, H10, H11⟩
  isplitl [H9]
  · iexact H9
  · iintro %d' H9
    iframe

theorem own_st10 (s : St) : own c M X s ⊢ iprop(has c M.a10 s.d10 ∗ (∀ d', has c M.a10 d' -∗ own c M X { s with d10 := d' })) := by
  unfold own
  iintro ⟨H2, H3, H4, H5, H6, H7, H8, H9, H10, H11⟩
  isplitl [H10]
  · iexact H10
  · iintro %d' H10
    iframe

theorem own_st11 (s : St) : own c M X s ⊢ iprop(has c M.a11 s.d11 ∗ (∀ d', has c M.a11 d' -∗ own c M X { s with d11 := d' })) := by
  unfold own
  iintro ⟨H2, H3, H4, H5, H6, H7, H8, H9, H10, H11⟩
  isplitl [H11]
  · iexact H11
  · iintro %d' H11
    iframe

/-- The row `h`, key tile `k` and head `c` of a big scratch. -/
def inTile (h k c : ℕ) (y : S2x2048x512.Idx) : Prop := (y 0).val = h ∧ (y 1).val / 128 = k ∧ (y 2).val / 128 = c

open Classical in
theorem upd_tile {h k c : ℕ} {hh : h < 2} {hk : k < 16} {hc : c < 4} {d d' : S2x2048x512.Idx → EReal} {w : S1x128x128.Idx → EReal}
    (H : upd d (rS hh hk hc) w d') :
    d' = fun y => if inTile h k c y then w (ValueIdx.ix3 (0 : Fin 1) (⟨(y 1).val % 128, Nat.mod_lt _ (by decide)⟩ : Fin 128) (⟨(y 2).val % 128, Nat.mod_lt _ (by decide)⟩ : Fin 128)) else d y := by
  funext y
  by_cases hy : inTile h k c y
  · rw [if_pos hy]
    rw [← H.1]
    refine congrArg d' (funext fun a => Fin.ext ?_)
    obtain ⟨h0, h1, h2⟩ := hy
    match a with
    | ⟨0, _⟩ => show (y 0).val = h + 1 * 0; omega
    | ⟨1, _⟩ => show (y 1).val = k * 128 + 1 * ((y 1).val % 128); omega
    | ⟨2, _⟩ => show (y 2).val = c * 128 + 1 * ((y 2).val % 128); omega
  · rw [if_neg hy]
    refine H.2 y fun hm => hy ?_
    obtain ⟨x, -, rfl⟩ := Finset.mem_map.mp hm
    have e0 : (((rS hh hk hc).emb x) 0).val = h + 1 * (x 0).val := rfl
    have e1 : (((rS hh hk hc).emb x) 1).val = k * 128 + 1 * (x 1).val := rfl
    have e2 : (((rS hh hk hc).emb x) 2).val = c * 128 + 1 * (x 2).val := rfl
    have b0 : (x 0).val < 1 := (x 0).isLt
    have b1 : (x 1).val < 128 := (x 1).isLt
    have b2 : (x 2).val < 128 := (x 2).isLt
    unfold inTile
    rw [e0, e1, e2]
    omega

open Classical in
theorem upd_row {h c : ℕ} {hh : h < 2} {hc : c < 4} {d d' : S2x4x1x128.Idx → EReal} {w : S1x1x1x128.Idx → EReal}
    (H : upd d (rM hh hc) w d') :
    d' = fun y => if (y 0).val = h ∧ (y 1).val = c then w (ValueIdx.ix4 (0 : Fin 1) (0 : Fin 1) (0 : Fin 1) (⟨(y 3).val, (y 3).isLt⟩ : Fin 128)) else d y := by
  funext y
  by_cases hy : (y 0).val = h ∧ (y 1).val = c
  · rw [if_pos hy]
    rw [← H.1]
    refine congrArg d' (funext fun a => Fin.ext ?_)
    obtain ⟨h0, h1⟩ := hy
    have b2 : (y 2).val < 1 := (y 2).isLt
    match a with
    | ⟨0, _⟩ => show (y 0).val = h + 1 * 0; omega
    | ⟨1, _⟩ => show (y 1).val = c + 1 * 0; omega
    | ⟨2, _⟩ => show (y 2).val = 0 + 1 * 0; omega
    | ⟨3, _⟩ => show (y 3).val = 0 + 1 * (y 3).val; omega
  · rw [if_neg hy]
    refine H.2 y fun hm => hy ?_
    obtain ⟨x, -, rfl⟩ := Finset.mem_map.mp hm
    have e0 : (((rM hh hc).emb x) 0).val = h + 1 * (x 0).val := rfl
    have e1 : (((rM hh hc).emb x) 1).val = c + 1 * (x 1).val := rfl
    have b0 : (x 0).val < 1 := (x 0).isLt
    have b1 : (x 1).val < 1 := (x 1).isLt
    rw [e0, e1]
    omega

open Classical in
theorem upd_out {h r : ℕ} {hh : h < 2} {hr : r + 256 ≤ 4096} {d d' : S1x2x128x4096.Idx → EReal} {w : S1x1x128x256.Idx → EReal}
    (hd : 256 ∣ r) (H : upd d (rO hh hr) w d') :
    d' = fun y => if (y 1).val = h ∧ (y 3).val / 256 = r / 256 then w (ValueIdx.ix4 (0 : Fin 1) (0 : Fin 1) (⟨(y 2).val, (y 2).isLt⟩ : Fin 128) (⟨(y 3).val % 256, Nat.mod_lt _ (by decide)⟩ : Fin 256)) else d y := by
  funext y
  by_cases hy : (y 1).val = h ∧ (y 3).val / 256 = r / 256
  · rw [if_pos hy]
    rw [← H.1]
    refine congrArg d' (funext fun a => Fin.ext ?_)
    obtain ⟨h0, h1⟩ := hy
    have b2 : (y 0).val < 1 := (y 0).isLt
    match a with
    | ⟨0, _⟩ => show (y 0).val = 0 + 1 * 0; omega
    | ⟨1, _⟩ => show (y 1).val = h + 1 * 0; omega
    | ⟨2, _⟩ => show (y 2).val = 0 + 1 * (y 2).val; omega
    | ⟨3, _⟩ => show (y 3).val = r + 1 * ((y 3).val % 256); omega
  · rw [if_neg hy]
    refine H.2 y fun hm => hy ?_
    obtain ⟨x, -, rfl⟩ := Finset.mem_map.mp hm
    have e0 : (((rO hh hr).emb x) 1).val = h + 1 * (x 1).val := rfl
    have e1 : (((rO hh hr).emb x) 3).val = r + 1 * (x 3).val := rfl
    have b0 : (x 1).val < 1 := (x 1).isLt
    have b1 : (x 3).val < 256 := (x 3).isLt
    rw [e0, e1]
    omega

end Cert.KernelIdeal.Attend
-- ==== Proof.Spec.lean ====
/- What one grid step computes, as formulas in the elements of its operands. -/
module

public import proofs.«01_k».proof.Proof.Values
public import proofs.«01_k».proof.Proof.State

@[expose] public section

noncomputable section

namespace Cert.KernelIdeal.Attend

open Idealize.ShloMosaic

/-- The product of a key and a query. -/
def Dt (X : In) (h g kk cc : ℕ) : EReal := ∑ d : Fin 256, nat X.x4 ![0, g, kk, d.val] * nat X.x2 ![0, 0, h, g, cc, d.val]

/-- The scaled score, masked on the diagonal tile; `n` is the number of tiles. -/
def Sc (X : In) (h g n kk cc : ℕ) : EReal :=
  if kk / 128 + 1 = n ∧ ¬ kk % 128 ≤ cc % 128 then ⊥ else Dt X h g kk cc * nat X.x5 ![0, g, kk, cc % 128]

/-- The greatest score of a query. -/
def Mx (X : In) (h g n cc : ℕ) : EReal := (Finset.range (n * 128)).sup fun kk => Sc X h g n kk cc

/-- The scale of a query. -/
def Qs (X : In) (h g cc : ℕ) : EReal := nat X.x3 ![0, 0, h, g * 4 + cc / 128, cc % 128]

/-- The weight of a key for a query. -/
def Wt (X : In) (h g n kk cc : ℕ) : EReal :=
  Ideal.exp2 (Sc X h g n kk cc * Qs X h g cc - (Mx X h g n cc * Qs X h g cc - Ideal.ofBits .f32 0x41000000#32))

/-- The sum of the weights of a query. -/
def Ls (X : In) (h g n cc : ℕ) : EReal := ∑ kk ∈ Finset.range (n * 128), Wt X h g n kk cc

/-- The result of a query. -/
def Ov (X : In) (h g n c q d : ℕ) : EReal :=
  Ideal.div (∑ kk : Fin (n * 128), nat X.x6 ![0, g, d, kk.val] * clampP (Wt X h g n kk.val (c * 128 + q))) (Ls X h g n (c * 128 + q)) * nat X.x7 ![0, g, 0, d]

theorem Mx_le (X : In) (h g n cc : ℕ) (z : EReal) : Mx X h g n cc ≤ z ↔ ∀ kk < n * 128, Sc X h g n kk cc ≤ z := by
  unfold Mx
  rw [Finset.sup_le_iff]
  simp

theorem sum_mod (f : ℕ → EReal) (a : Fin 8) :
    ∑ x ∈ Finset.range 128, (if x % 8 = a.val then f x else 0) = ∑ i : Fin 16, f (i.val * 8 + a.val) := by
  rw [← Finset.sum_filter]
  symm
  refine Finset.sum_bij (fun i _ => i.val * 8 + a.val) (fun i _ => ?_) (fun i _ j _ e => ?_) (fun x hx => ?_) (fun _ _ => rfl)
  · rw [Finset.mem_filter, Finset.mem_range]; omega
  · exact Fin.ext (by omega)
  · rw [Finset.mem_filter, Finset.mem_range] at hx
    exact ⟨⟨x / 8, by omega⟩, Finset.mem_univ _, by dsimp only; omega⟩

/-- The running sum of every eighth weight. -/
def part (f : ℕ → EReal) (k a : ℕ) : EReal := ∑ x ∈ Finset.range (k * 128), if x % 8 = a then f x else 0

theorem part_succ (f : ℕ → EReal) (k : ℕ) (a : Fin 8) : part f (k + 1) a.val = part f k a.val + ∑ i : Fin 16, f (k * 128 + (i.val * 8 + a.val)) := by
  unfold part
  rw [Nat.succ_mul, Finset.sum_range_add]
  congr 1
  rw [← sum_mod (fun x => f (k * 128 + x)) a]
  refine Finset.sum_congr rfl fun x _ => ?_
  have e : (k * 128 + x) % 8 = x % 8 := by omega
  rw [e]

theorem part_sum (f : ℕ → EReal) (k : ℕ) : ∑ a : Fin 8, part f k a.val = ∑ x ∈ Finset.range (k * 128), f x := by
  unfold part
  rw [Finset.sum_comm]
  refine Finset.sum_congr rfl fun x _ => ?_
  rw [Finset.sum_eq_single (⟨x % 8, Nat.mod_lt _ (by decide)⟩ : Fin 8)]
  · rw [if_pos rfl]
  · intro b _ hb
    rw [if_neg]
    intro e
    exact hb (Fin.ext e.symm)
  · intro h
    exact absurd (Finset.mem_univ _) h

end Cert.KernelIdeal.Attend
-- ==== Proof.Scores.lean ====
/- The first half of a group: the scores of every tile and their maxima. -/
module

public import proofs.«01_k».proof.Proof.Spec

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable [Facts]

open Facts Shapes1.Facts₀ K0.Facts₀

variable (cd : Dev nD) (M : Mem) (X : In)

open Classical in
/-- A tile put into a big scratch. -/
def putT (h k c : ℕ) (S : ℕ → ℕ → EReal) (d : S2x2048x512.Idx → EReal) : S2x2048x512.Idx → EReal :=
  fun y => if inTile h k c y then S (y 1).val (y 2).val else d y

open Classical in
/-- Rows of tiles put into a big scratch. -/
def putR (h a b : ℕ) (S : ℕ → ℕ → EReal) (d : S2x2048x512.Idx → EReal) : S2x2048x512.Idx → EReal :=
  fun y => if (y 0).val = h ∧ a ≤ (y 1).val / 128 ∧ (y 1).val / 128 < b then S (y 1).val (y 2).val else d y

theorem putT_four (h k : ℕ) (S : ℕ → ℕ → EReal) (d : S2x2048x512.Idx → EReal) :
    putT h k 3 S (putT h k 2 S (putT h k 1 S (putT h k 0 S d))) = putR h k (k + 1) S d := by
  funext y
  unfold putT putR
  have hy : (y 2).val < 512 := (y 2).isLt
  by_cases e : (y 0).val = h ∧ k ≤ (y 1).val / 128 ∧ (y 1).val / 128 < k + 1
  · rw [if_pos e]
    split_ifs with h3 h2 h1 h0
    · rfl
    · rfl
    · rfl
    · rfl
    · exfalso
      unfold inTile at h0 h1 h2 h3
      omega
  · rw [if_neg e]
    split_ifs with h3 h2 h1 h0
    · exact absurd ⟨h3.1, by have := h3.2.1; omega, by have := h3.2.1; omega⟩ e
    · exact absurd ⟨h2.1, by have := h2.2.1; omega, by have := h2.2.1; omega⟩ e
    · exact absurd ⟨h1.1, by have := h1.2.1; omega, by have := h1.2.1; omega⟩ e
    · exact absurd ⟨h0.1, by have := h0.2.1; omega, by have := h0.2.1; omega⟩ e
    · rfl

theorem putR_succ (h k b : ℕ) (S : ℕ → ℕ → EReal) (d : S2x2048x512.Idx → EReal) (hb : k + 1 ≤ b) :
    putR h (k + 1) b S (putR h k (k + 1) S d) = putR h k b S d := by
  funext y
  unfold putR
  split_ifs with h1 h2 h3 h4 h5
  all_goals first | rfl | (exfalso; omega)

theorem scoreHead_ok {n h k c : ℕ} {hh : h < 2} {hk : k < n} {hn : n ≤ 16} {hc : c < 4} {last : Bool} {sc : FVec Ideal (Sk n) .f32}
    {ks : FVec Ideal S128x128 .f32} {K : FVec Ideal S8x128 .f32 → PG (F := Ideal) PUnit} {s : St} {Q : PUnit → sProp 𝕄} (S : ℕ → ℕ → EReal)
    (hval : ∀ i j : Fin 128, tileVal hk hc last sc ks (ValueIdx.ix2 i j) = S (k * 128 + i.val) (c * 128 + j.val))
    (hK : Ok cd M X { s with d9 := putT h k c S s.d9 } (K (tileMax (tileVal hk hc last sc ks))) Q) :
    Ok cd M X s (scoreHead M.a9 hh hk hn hc last sc ks K) Q := by
  refine ld_of cd (own_ld9 cd M X s) (st_of cd (own_st9 cd M X s) fun d' hd => ?_)
  have e : d' = putT h k c S s.d9 := by
    refine (upd_tile hd).trans (funext fun y => ?_)
    unfold putT
    by_cases hy : inTile h k c y
    · rw [if_pos hy, if_pos hy]
      rw [shapeCast_apply _ _ _ (ValueIdx.ix2 (⟨(y 1).val % 128, Nat.mod_lt _ (by decide)⟩ : Fin 128) (⟨(y 2).val % 128, Nat.mod_lt _ (by decide)⟩ : Fin 128)) (by
        rw [Shape.rowMajor_val_three, Shape.rowMajor_val_two]
        show (y 1).val % 128 * 128 + (y 2).val % 128 = (0 * 128 + (y 1).val % 128) * 128 + (y 2).val % 128
        omega), hval]
      obtain ⟨h0, h1, h2⟩ := hy
      congr 1 <;> (dsimp only; omega)
    · rw [if_neg hy, if_neg hy]
  rw [e]
  exact hK

/-- The maxima of a tile for a head bound its scores. -/
abbrev tileTop (S : ℕ → ℕ → EReal) (k : ℕ) (t : Fin 4 → FVec Ideal S8x128 .f32) : Prop :=
  ∀ (j : Fin 4) (a : Fin 8) (b : Fin 128) (z : EReal), t j (ValueIdx.ix2 a b) ≤ z ↔ ∀ i : Fin 16, S (k * 128 + (i.val * 8 + a.val)) (j.val * 128 + b.val) ≤ z

theorem tileTop_one (S : ℕ → ℕ → EReal) (k c : ℕ) (v : FVec Ideal S128x128 .f32)
    (h : ∀ i j : Fin 128, v (ValueIdx.ix2 i j) = S (k * 128 + i.val) (c * 128 + j.val)) (a : Fin 8) (b : Fin 128) (z : EReal) :
    tileMax v (ValueIdx.ix2 a b) ≤ z ↔ ∀ i : Fin 16, S (k * 128 + (i.val * 8 + a.val)) (c * 128 + b.val) ≤ z := by
  rw [tileMax_le]
  refine forall_congr' fun i => ?_
  rw [h]

theorem tileTop_all (S : ℕ → ℕ → EReal) (k : ℕ) (t0 t1 t2 t3 : FVec Ideal S8x128 .f32)
    (h0 : ∀ (a : Fin 8) (b : Fin 128) (z : EReal), t0 (ValueIdx.ix2 a b) ≤ z ↔ ∀ i : Fin 16, S (k * 128 + (i.val * 8 + a.val)) (0 * 128 + b.val) ≤ z)
    (h1 : ∀ (a : Fin 8) (b : Fin 128) (z : EReal), t1 (ValueIdx.ix2 a b) ≤ z ↔ ∀ i : Fin 16, S (k * 128 + (i.val * 8 + a.val)) (1 * 128 + b.val) ≤ z)
    (h2 : ∀ (a : Fin 8) (b : Fin 128) (z : EReal), t2 (ValueIdx.ix2 a b) ≤ z ↔ ∀ i : Fin 16, S (k * 128 + (i.val * 8 + a.val)) (2 * 128 + b.val) ≤ z)
    (h3 : ∀ (a : Fin 8) (b : Fin 128) (z : EReal), t3 (ValueIdx.ix2 a b) ≤ z ↔ ∀ i : Fin 16, S (k * 128 + (i.val * 8 + a.val)) (3 * 128 + b.val) ≤ z) :
    tileTop S k ![t0, t1, t2, t3] := by
  intro j a b z
  match j with
  | ⟨0, _⟩ => exact h0 a b z
  | ⟨1, _⟩ => exact h1 a b z
  | ⟨2, _⟩ => exact h2 a b z
  | ⟨3, _⟩ => exact h3 a b z

theorem tileTop_four (S : ℕ → ℕ → EReal) (k : ℕ) (v0 v1 v2 v3 : FVec Ideal S128x128 .f32)
    (h0 : ∀ i j : Fin 128, v0 (ValueIdx.ix2 i j) = S (k * 128 + i.val) (0 * 128 + j.val))
    (h1 : ∀ i j : Fin 128, v1 (ValueIdx.ix2 i j) = S (k * 128 + i.val) (1 * 128 + j.val))
    (h2 : ∀ i j : Fin 128, v2 (ValueIdx.ix2 i j) = S (k * 128 + i.val) (2 * 128 + j.val))
    (h3 : ∀ i j : Fin 128, v3 (ValueIdx.ix2 i j) = S (k * 128 + i.val) (3 * 128 + j.val)) :
    tileTop S k ![tileMax v0, tileMax v1, tileMax v2, tileMax v3] := by
  exact tileTop_all S k _ _ _ _ (tileTop_one S k 0 v0 h0) (tileTop_one S k 1 v1 h1) (tileTop_one S k 2 v2 h2) (tileTop_one S k 3 v3 h3)

theorem scoreTile_ok {n h g k : ℕ} {hh : h < 2} {hg : g < 4} {hk : k < n} {hn : n ≤ 16} {last : Bool} (hl : last = true ↔ k + 1 = n)
    {sc : FVec Ideal (Sk n) .f32} (hsc : ∀ (i : Fin (n * 128)) (j : Fin 512), sc (ValueIdx.ix2 i j) = Dt X h g i.val j.val)
    {K : (Fin 4 → FVec Ideal S8x128 .f32) → PG (F := Ideal) PUnit} {s : St} {Q : PUnit → sProp 𝕄}
    (hK : ∀ t, tileTop (Sc X h g n) k t → Ok cd M X { s with d9 := putR h k (k + 1) (Sc X h g n) s.d9 } (K t) Q) :
    Ok cd M X s (scoreTile M.a5 M.a9 hh hg hk hn last sc K) Q := by
  refine ld_of cd (own_ld5 cd M X s) ?_
  have hks : ∀ i j : Fin 128, shapeCast S128x128 (fun x => X.x5 ((rKs hg (Nat.lt_of_lt_of_le hk hn)).emb x)) shapeCasts_S1x1x128x128_S128x128 (ValueIdx.ix2 i j)
      = nat X.x5 ![0, g, k * 128 + i.val, j.val] := by
    intro i j
    rw [shapeCast_apply _ _ _ (ValueIdx.ix4 (0 : Fin 1) (0 : Fin 1) i j) (by
      rw [Shape.rowMajor_val_four, Shape.rowMajor_val_two]
      show ((0 * 1 + 0) * 128 + i.val) * 128 + j.val = i.val * 128 + j.val
      omega)]
    refine (nat_eq _ _ _ fun a => ?_).symm
    match a with
    | ⟨0, _⟩ => rfl
    | ⟨1, _⟩ => rfl
    | ⟨2, _⟩ => show k * 128 + i.val = k * 128 + 1 * i.val; omega
    | ⟨3, _⟩ => show j.val = 0 + 1 * j.val; omega
  have hval : ∀ (c : ℕ) (hc : c < 4) (i j : Fin 128), tileVal hk hc last sc
      (shapeCast S128x128 (fun x => X.x5 ((rKs hg (Nat.lt_of_lt_of_le hk hn)).emb x)) shapeCasts_S1x1x128x128_S128x128) (ValueIdx.ix2 i j)
      = Sc X h g n (k * 128 + i.val) (c * 128 + j.val) := by
    intro c hc i j
    rw [tileVal_apply, hsc, hks]
    unfold Sc
    have e1 : (k * 128 + i.val) / 128 = k := by omega
    have e2 : (k * 128 + i.val) % 128 = i.val := by omega
    have e3 : (c * 128 + j.val) % 128 = j.val := by omega
    rw [e1, e2, e3]
    by_cases hm : last = true ∧ ¬ i.val ≤ j.val
    · rw [if_pos hm, if_pos ⟨hl.mp hm.1, hm.2⟩]
    · rw [if_neg hm, if_neg fun h' => hm ⟨hl.mpr h'.1, h'.2⟩]
  refine scoreHead_ok cd M X (Sc X h g n) (hval 0 _) (scoreHead_ok cd M X (Sc X h g n) (hval 1 _) (scoreHead_ok cd M X (Sc X h g n) (hval 2 _)
    (scoreHead_ok cd M X (Sc X h g n) (hval 3 _) ?_)))
  rw [← putT_four] at hK
  exact hK _ (tileTop_four (Sc X h g n) k _ _ _ _ (hval 0 (by omega)) (hval 1 (by omega)) (hval 2 (by omega)) (hval 3 (by omega)))

/-- The running maxima bound the scores of the tiles so far. -/
abbrev runTop (S : ℕ → ℕ → EReal) (k : ℕ) (t : Fin 4 → FVec Ideal S8x128 .f32) : Prop :=
  ∀ (j : Fin 4) (a : Fin 8) (b : Fin 128) (z : EReal), t j (ValueIdx.ix2 a b) ≤ z ↔ ∀ kk < k * 128, kk % 8 = a.val → S kk (j.val * 128 + b.val) ≤ z

theorem runTop_one (S : ℕ → ℕ → EReal) (t : Fin 4 → FVec Ideal S8x128 .f32) (ht : tileTop S 0 t) : runTop S 1 t := by
  intro j a b z
  rw [ht j a b z]
  constructor
  · intro H kk hkk hm
    have := H ⟨kk / 8, by omega⟩
    have e : 0 * 128 + (kk / 8 * 8 + a.val) = kk := by omega
    rwa [e] at this
  · intro H i
    exact H _ (by omega) (by omega)

theorem runTop_succ (S : ℕ → ℕ → EReal) (k : ℕ) (m t : Fin 4 → FVec Ideal S8x128 .f32) (hm : runTop S k m) (ht : tileTop S k t) :
    runTop S (k + 1) fun j => maximumf (m j) (t j) := by
  intro j a b z
  show (max (m j (ValueIdx.ix2 a b)) (t j (ValueIdx.ix2 a b)) : EReal) ≤ z ↔ _
  rw [max_le_iff, hm j a b z, ht j a b z]
  constructor
  · rintro ⟨H1, H2⟩ kk hkk hmod
    by_cases hlt : kk < k * 128
    · exact H1 kk hlt hmod
    · have := H2 ⟨(kk - k * 128) / 8, by omega⟩
      have e : k * 128 + ((kk - k * 128) / 8 * 8 + a.val) = kk := by omega
      rwa [e] at this
  · intro H
    exact ⟨fun kk hkk hmod => H kk (by omega) hmod, fun i => H _ (by omega) (by omega)⟩

theorem scoreTiles_ok {n h g : ℕ} {hh : h < 2} {hg : g < 4} {hn : n ≤ 16}
    {sc : FVec Ideal (Sk n) .f32} (hsc : ∀ (i : Fin (n * 128)) (j : Fin 512), sc (ValueIdx.ix2 i j) = Dt X h g i.val j.val)
    {K : (Fin 4 → FVec Ideal S8x128 .f32) → PG (F := Ideal) PUnit} {Q : PUnit → sProp 𝕄} : ∀ (r k : ℕ) (e : k + r = n) (m : Fin 4 → FVec Ideal S8x128 .f32) (s : St),
    runTop (Sc X h g n) k m → (∀ t, runTop (Sc X h g n) n t → Ok cd M X { s with d9 := putR h k n (Sc X h g n) s.d9 } (K t) Q) →
    Ok cd M X s (scoreTiles M.a5 M.a9 hh hg hn sc K r k e m) Q
  | 0, k, e, m, s, hm, hK => by
    obtain rfl : k = n := by omega
    have := hK m hm
    have e2 : putR h k k (Sc X h g k) s.d9 = s.d9 := by
      funext y
      unfold putR
      rw [if_neg (by omega)]
    rw [e2] at this
    exact this
  | r + 1, k, e, m, s, hm, hK => by
    refine scoreTile_ok cd M X (by rw [Nat.beq_eq]; omega) hsc fun t ht => ?_
    refine scoreTiles_ok hsc r (k + 1) (by omega) _ _ (runTop_succ _ _ _ _ hm ht) fun t' ht' => ?_
    have := hK t' ht'
    rw [← putR_succ h k n _ _ (by omega)] at this
    exact this

/-- A row of the maxima put into their scratch. -/
def putM (h c : ℕ) (f : ℕ → EReal) (d : S2x4x1x128.Idx → EReal) : S2x4x1x128.Idx → EReal :=
  fun y => if (y 0).val = h ∧ (y 1).val = c then f ((y 1).val * 128 + (y 3).val) else d y

/-- The maxima of one half put into their scratch. -/
def putMs (h : ℕ) (f : ℕ → EReal) (d : S2x4x1x128.Idx → EReal) : S2x4x1x128.Idx → EReal :=
  fun y => if (y 0).val = h then f ((y 1).val * 128 + (y 3).val) else d y

theorem putM_four (h : ℕ) (f : ℕ → EReal) (d : S2x4x1x128.Idx → EReal) : putM h 3 f (putM h 2 f (putM h 1 f (putM h 0 f d))) = putMs h f d := by
  funext y
  unfold putM putMs
  have hy : (y 1).val < 4 := (y 1).isLt
  split_ifs
  all_goals first | rfl | (exfalso; omega)

theorem storeMax_ok {h c : ℕ} {hh : h < 2} {hc : c < 4} {m : FVec Ideal S8x128 .f32} {K : PG (F := Ideal) PUnit} {s : St} {Q : PUnit → sProp 𝕄}
    (f : ℕ → EReal) (hm : ∀ b : Fin 128, maxRow m (ValueIdx.ix4 (0 : Fin 1) (0 : Fin 1) (0 : Fin 1) b) = f (c * 128 + b.val))
    (hK : Ok cd M X { s with d10 := putM h c f s.d10 } K Q) : Ok cd M X s (storeMax M.a10 hh hc m K) Q := by
  refine ld_of cd (own_ld10 cd M X s) (st_of cd (own_st10 cd M X s) fun d' hd => ?_)
  have e : d' = putM h c f s.d10 := by
    refine (upd_row hd).trans (funext fun y => ?_)
    unfold putM
    by_cases hy : (y 0).val = h ∧ (y 1).val = c
    · rw [if_pos hy, if_pos hy]
      refine (hm _).trans ?_
      rw [hy.2]
    · rw [if_neg hy, if_neg hy]
  rw [e]
  exact hK

theorem top_eq {h g n : ℕ} (t : Fin 4 → FVec Ideal S8x128 .f32) (ht : runTop (Sc X h g n) n t) (j : Fin 4) (b : Fin 128) :
    maxRow (t j) (ValueIdx.ix4 (0 : Fin 1) (0 : Fin 1) (0 : Fin 1) b) = Mx X h g n (j.val * 128 + b.val) := by
  refine eq_of_forall_ge_iff fun z => ?_
  rw [maxRow_le, Mx_le]
  constructor
  · intro H kk hkk
    exact (ht j ⟨kk % 8, Nat.mod_lt _ (by decide)⟩ b z).mp (H _) kk hkk rfl
  · intro H a
    exact (ht j a b z).mpr fun kk hkk _ => H kk hkk

theorem scores_ok {h g : ℕ} (m : ℕ) {hh : h < 2} {hg : g < 4} {hn : m + 1 ≤ 16} {K : PG (F := Ideal) PUnit} {s : St} {Q : PUnit → sProp 𝕄}
    (hK : Ok cd M X { s with d9 := putR h 0 (m + 1) (Sc X h g (m + 1)) s.d9, d10 := putMs h (Mx X h g (m + 1)) s.d10 } K Q) :
    Ok cd M X s (scores M.a2 M.a4 M.a5 M.a9 M.a10 m hh hg hn K) Q := by
  refine ld_of cd (own_ld4 cd M X s) (ld_of cd (own_ld2 cd M X s) ?_)
  have hsc : ∀ (i : Fin ((m + 1) * 128)) (j : Fin 512), dots (F := Ideal) (n := m + 1) (fun x => X.x4 ((rKc hg hn).emb x)) (fun x => X.x2 ((rQc hh hg).emb x)) (ValueIdx.ix2 i j) = Dt X h g i.val j.val := by
    intro i j
    rw [dots_apply]
    unfold Dt
    refine Finset.sum_congr rfl fun d _ => ?_
    congr 1
    · refine (nat_eq _ _ _ fun a => ?_).symm
      match a with
      | ⟨0, _⟩ => rfl
      | ⟨1, _⟩ => rfl
      | ⟨2, _⟩ => show i.val = 0 + 1 * i.val; omega
      | ⟨3, _⟩ => show d.val = 0 + 1 * d.val; omega
    · refine (nat_eq _ _ _ fun a => ?_).symm
      match a with
      | ⟨0, _⟩ => rfl
      | ⟨1, _⟩ => rfl
      | ⟨2, _⟩ => rfl
      | ⟨3, _⟩ => rfl
      | ⟨4, _⟩ => show j.val = 0 + 1 * j.val; omega
      | ⟨5, _⟩ => show d.val = 0 + 1 * d.val; omega
  refine scoreTile_ok cd M X (by rw [Nat.beq_eq]; omega) hsc fun t ht => ?_
  refine scoreTiles_ok cd M X hsc m 1 (by omega) _ _ (runTop_one _ _ ht) fun t' ht' => ?_
  refine storeMax_ok cd M X (Mx X h g (m + 1)) (top_eq X t' ht' 0) (storeMax_ok cd M X (Mx X h g (m + 1)) (top_eq X t' ht' 1)
    (storeMax_ok cd M X (Mx X h g (m + 1)) (top_eq X t' ht' 2) (storeMax_ok cd M X (Mx X h g (m + 1)) (top_eq X t' ht' 3) ?_)))
  rw [← putM_four, ← putR_succ h 0 (m + 1) _ _ (by omega)] at hK
  exact hK

end Cert.KernelIdeal.Attend
-- ==== Proof.Weights.lean ====
/- The second half of a group: the weights, their codes and sums, and the results. -/
module

public import proofs.«01_k».proof.Proof.Scores

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable [Facts]

open Facts Shapes1.Facts₀ K0.Facts₀

variable (cd : Dev nD) (M : Mem) (X : In)

/-- The tiles of a head put into a big scratch. -/
def putC (h c a b : ℕ) (S : ℕ → ℕ → EReal) (d : S2x2048x512.Idx → EReal) : S2x2048x512.Idx → EReal :=
  fun y => if (y 0).val = h ∧ (y 2).val / 128 = c ∧ a ≤ (y 1).val / 128 ∧ (y 1).val / 128 < b then S (y 1).val (y 2).val else d y

theorem putC_succ (h c k b : ℕ) (S : ℕ → ℕ → EReal) (d : S2x2048x512.Idx → EReal) (hb : k + 1 ≤ b) :
    putC h c (k + 1) b S (putT h k c S d) = putC h c k b S d := by
  funext y
  unfold putC putT
  by_cases h1 : (y 0).val = h ∧ (y 2).val / 128 = c ∧ k + 1 ≤ (y 1).val / 128 ∧ (y 1).val / 128 < b
  · rw [if_pos h1, if_pos ⟨h1.1, h1.2.1, by omega, h1.2.2.2⟩]
  · rw [if_neg h1]
    by_cases h2 : inTile h k c y
    · rw [if_pos h2, if_pos ⟨h2.1, h2.2.2, by have := h2.2.1; omega, by have := h2.2.1; omega⟩]
    · rw [if_neg h2, if_neg]
      rintro ⟨e0, e2, e3, e4⟩
      exact h2 ⟨e0, by omega, e2⟩

theorem putC_four (h n : ℕ) (S : ℕ → ℕ → EReal) (d : S2x2048x512.Idx → EReal) :
    putC h 3 0 n S (putC h 2 0 n S (putC h 1 0 n S (putC h 0 0 n S d))) = putR h 0 n S d := by
  funext y
  unfold putC putR
  have hy : (y 2).val < 512 := (y 2).isLt
  split_ifs
  all_goals first | rfl | (exfalso; omega)

/-- The scratch of scores holds those of a half. -/
abbrev has9 (h g n : ℕ) (d : S2x2048x512.Idx → EReal) : Prop := ∀ y : S2x2048x512.Idx, (y 0).val = h → (y 1).val < n * 128 → d y = Sc X h g n (y 1).val (y 2).val

/-- The scratch of maxima holds those of a half. -/
abbrev has10 (h g n : ℕ) (d : S2x4x1x128.Idx → EReal) : Prop := ∀ y : S2x4x1x128.Idx, (y 0).val = h → d y = Mx X h g n ((y 1).val * 128 + (y 3).val)

/-- The codes of the weights. -/
abbrev Cd (h g n kk cc : ℕ) : EReal := clampP (Wt X h g n kk cc)

theorem weightTiles_ok {n h g c : ℕ} {hh : h < 2} {hc : c < 4} {hn : n ≤ 16} {harg11 : M.a11.IsWhole} {qs sh : FVec Ideal S1x128 .f32}
    (hqs : ∀ j : Fin 128, qs (ValueIdx.ix2 (0 : Fin 1) j) = Qs X h g (c * 128 + j.val))
    (hsh : ∀ j : Fin 128, sh (ValueIdx.ix2 (0 : Fin 1) j) = Mx X h g n (c * 128 + j.val) * Qs X h g (c * 128 + j.val) - Ideal.ofBits .f32 0x41000000#32)
    {K : FVec Ideal S8x128 .f32 → PG (F := Ideal) PUnit} {Q : PUnit → sProp 𝕄} : ∀ (r k : ℕ) (e : k + r = n) (l : FVec Ideal S8x128 .f32) (s : St),
    has9 X h g n s.d9 → (∀ (a : Fin 8) (b : Fin 128), l (ValueIdx.ix2 a b) = part (fun kk => Wt X h g n kk (c * 128 + b.val)) k a.val) →
    (∀ l', (∀ (a : Fin 8) (b : Fin 128), l' (ValueIdx.ix2 a b) = part (fun kk => Wt X h g n kk (c * 128 + b.val)) n a.val) →
      Ok cd M X { s with d11 := putC h c k n (Cd X h g n) s.d11 } (K l') Q) →
    Ok cd M X s (weightTiles M.a9 M.a11 harg11 hh hc hn qs sh K r k e l) Q
  | 0, k, e, l, s, h9, hl, hK => by
    obtain rfl : k = n := by omega
    have e2 : putC h c k k (Cd X h g k) s.d11 = s.d11 := by
      funext y
      unfold putC
      rw [if_neg (by omega)]
    have := hK l hl
    rw [e2] at this
    exact this
  | r + 1, k, e, l, s, h9, hl, hK => by
    refine ld_of cd (own_ld9 cd M X s) (ld_of cd (own_ld11 cd M X s) (st_of cd (own_st11 cd M X s) fun d' hd => ?_))
    have hP : ∀ i j : Fin 128, tileP (fun x => s.d9 ((rS (k := k) hh (by omega) hc).emb x)) qs sh (ValueIdx.ix2 i j) = Wt X h g n (k * 128 + i.val) (c * 128 + j.val) := by
      intro i j
      rw [tileP_apply, hqs, hsh, h9]
      · show Ideal.exp2 (Sc X h g n (k * 128 + 1 * i.val) (c * 128 + 1 * j.val) * _ - _) = _
        rw [one_mul, one_mul]
        rfl
      · show h + 1 * 0 = h
        omega
      · show k * 128 + 1 * i.val < n * 128
        have := i.isLt
        have : k + 1 ≤ n := by omega
        omega
    have e' : d' = putT h k c (Cd X h g n) s.d11 := by
      refine (upd_tile hd).trans (funext fun y => ?_)
      unfold putT
      by_cases hy : inTile h k c y
      · rw [if_pos hy, if_pos hy, tileCodes_apply]
        refine (congrArg clampP (hP _ _)).trans ?_
        obtain ⟨h0, h1, h2⟩ := hy
        congr 2 <;> (dsimp only; omega)
      · rw [if_neg hy, if_neg hy]
    subst e'
    rw [← putC_succ h c k n _ _ (by omega)] at hK
    refine weightTiles_ok hqs hsh r (k + 1) (by omega) _ _ h9 (fun a b => ?_) hK
    refine (congrArg₂ (· + ·) (hl a b) ((tileSum_apply _ a b).trans (Finset.sum_congr rfl fun i _ => hP _ b))).trans ?_
    rw [part_succ]

theorem weights_ok {h g c : ℕ} {gw : BitVec 32} (m : ℕ) {hh : h < 2} {hc : c < 4} {hr : (Scalar.indexCast (Scalar.addi (Scalar.muli gw 4#32) (BitVec.ofNat 32 c)) : Index).toNat < 16}
    (hrv : (Scalar.indexCast (Scalar.addi (Scalar.muli gw 4#32) (BitVec.ofNat 32 c)) : Index).toNat = g * 4 + c)
    {hn : m + 1 ≤ 16} {harg11 : M.a11.IsWhole}
    {K : FVec Ideal S1x128 .f32 → PG (F := Ideal) PUnit} {Q : PUnit → sProp 𝕄} {s : St}
    (h9 : has9 X h g (m + 1) s.d9) (h10 : has10 X h g (m + 1) s.d10)
    (hK : ∀ l, (∀ b : Fin 128, l (ValueIdx.ix2 (0 : Fin 1) b) = Ls X h g (m + 1) (c * 128 + b.val)) →
      Ok cd M X { s with d11 := putC h c 0 (m + 1) (Cd X h g (m + 1)) s.d11 } (K l) Q) :
    Ok cd M X s (weights M.a3 M.a9 M.a10 M.a11 harg11 gw m hh hc hr hn K) Q := by
  refine ld_of cd (own_ld3 cd M X s) (ld_of cd (own_ld10 cd M X s) ?_)
  have hqs : ∀ j : Fin 128, shapeCast S1x128 (fun x => X.x3 ((rQs hh hr).emb x)) shapeCasts_S1x1x1x1x128_S1x128 (ValueIdx.ix2 (0 : Fin 1) j) = Qs X h g (c * 128 + j.val) := by
    intro j
    rw [shapeCast_apply _ _ _ (ValueIdx.ix5 (0 : Fin 1) (0 : Fin 1) (0 : Fin 1) (0 : Fin 1) j) (by
      rw [Shape.rowMajor_val_five, Shape.rowMajor_val_two]
      show (((0 * 1 + 0) * 1 + 0) * 1 + 0) * 128 + j.val = 0 * 128 + j.val
      omega)]
    refine (nat_eq _ _ _ fun a => ?_).symm
    match a with
    | ⟨0, _⟩ => rfl
    | ⟨1, _⟩ => rfl
    | ⟨2, _⟩ => rfl
    | ⟨3, _⟩ =>
      show g * 4 + (c * 128 + j.val) / 128 = (Scalar.indexCast (Scalar.addi (Scalar.muli gw 4#32) (BitVec.ofNat 32 c)) : Index).toNat + 1 * 0
      rw [hrv]; omega
    | ⟨4, _⟩ => show (c * 128 + j.val) % 128 = 0 + 1 * j.val; omega
  have hmm : ∀ j : Fin 128, shapeCast S1x128 (fun x => s.d10 ((rM hh hc).emb x)) shapeCasts_S1x1x1x128_S1x128 (ValueIdx.ix2 (0 : Fin 1) j) = Mx X h g (m + 1) (c * 128 + j.val) := by
    intro j
    rw [shapeCast_apply _ _ _ (ValueIdx.ix4 (0 : Fin 1) (0 : Fin 1) (0 : Fin 1) j) (by
      rw [Shape.rowMajor_val_four, Shape.rowMajor_val_two]
      show ((0 * 1 + 0) * 1 + 0) * 128 + j.val = 0 * 128 + j.val
      omega), h10]
    · show Mx X h g (m + 1) ((c + 1 * 0) * 128 + (0 + 1 * j.val)) = _
      congr 1; omega
    · show h + 1 * 0 = h
      omega
  refine weightTiles_ok cd M X hqs (fun j => ?_) (m + 1) 0 (by omega) _ s h9 (fun a b => ?_) fun l hl => ?_
  · show (shapeCast S1x128 (fun x => s.d10 ((rM hh hc).emb x)) shapeCasts_S1x1x1x128_S1x128 (ValueIdx.ix2 (0 : Fin 1) j)
      * shapeCast S1x128 (fun x => X.x3 ((rQs hh hr).emb x)) shapeCasts_S1x1x1x1x128_S1x128 (ValueIdx.ix2 (0 : Fin 1) j) - Ideal.ofBits .f32 0x41000000#32 : EReal) = _
    rw [hqs, hmm]
  · show (Ideal.ofBits .f32 0x00000000#32 : EReal) = _
    rw [Ideal.ofBits_zero_f32]
    unfold part
    rw [Nat.zero_mul, Finset.range_zero, Finset.sum_empty]
  · refine hK _ fun b => ?_
    refine (sumRow_apply l b).trans ?_
    unfold Ls
    rw [← part_sum]
    exact Finset.sum_congr rfl fun a _ => hl a b

/-- The scratch of codes holds those of a half. -/
abbrev has11 (h g n : ℕ) (d : S2x2048x512.Idx → EReal) : Prop := ∀ y : S2x2048x512.Idx, (y 0).val = h → (y 1).val < n * 128 → d y = Cd X h g n (y 1).val (y 2).val

theorem row_ok {h g k n : ℕ} {hh : h < 2} {hk : k < 16} (hkn : k < n) {K : FVec Ideal S128x512 .fp8e4m3 → PG (F := Ideal) PUnit} {Q : PUnit → sProp 𝕄} {s : St}
    (h11 : has11 X h g n s.d11)
    (hK : ∀ v, (∀ (i : Fin 128) (j : Fin 512), v (ValueIdx.ix2 i j) = Cd X h g n (k * 128 + i.val) j.val) → Ok cd M X s (K v) Q) :
    Ok cd M X s (row M.a11 hh hk K) Q := by
  refine ld_of cd (own_ld11 cd M X s) (ld_of cd (own_ld11 cd M X s) (ld_of cd (own_ld11 cd M X s) (ld_of cd (own_ld11 cd M X s) ?_)))
  refine hK _ fun i j => ?_
  have hj : j = (⟨(⟨j.val / 128, by omega⟩ : Fin 4).val * 128 + (⟨j.val % 128, Nat.mod_lt _ (by decide)⟩ : Fin 128).val, by dsimp only; omega⟩ : Fin 512) :=
    Fin.ext (by dsimp only; omega)
  rw [hj]
  refine (rowVal_apply (fun q : Fin 4 => fun x => s.d11 ((rS (c := q.val) hh hk q.isLt).emb x)) i _ _).trans ?_
  rw [h11]
  · show Cd X h g n (k * 128 + 1 * i.val) (j.val / 128 * 128 + 1 * (j.val % 128)) = _
    rw [one_mul, one_mul]
  · show h + 1 * 0 = h
    omega
  · show k * 128 + 1 * i.val < n * 128
    have := i.isLt
    omega

theorem rows_ok {n h g : ℕ} {hh : h < 2} {hn : n ≤ 16} {Q : PUnit → sProp 𝕄} {s : St} (h11 : has11 X h g n s.d11) : ∀ (r k : ℕ) (e : k + r = n)
    (K : {l : List (FVec Ideal S128x512 .fp8e4m3) // l.length = r} → PG (F := Ideal) PUnit),
    (∀ l, (∀ (t : ℕ) (ht : t < r) (i : Fin 128) (j : Fin 512), (l.1[t]'(by rw [l.2]; exact ht)) (ValueIdx.ix2 i j) = Cd X h g n ((k + t) * 128 + i.val) j.val) → Ok cd M X s (K l) Q) →
    Ok cd M X s (rows M.a11 hh hn r k e K) Q
  | 0, k, e, K, hK => hK _ fun t ht => absurd ht (Nat.not_lt_zero t)
  | r + 1, k, e, K, hK => by
    refine row_ok cd M X (g := g) (n := n) (by omega) h11 fun v hv => ?_
    refine rows_ok h11 r (k + 1) (by omega) _ fun l hl => hK _ fun t ht i j => ?_
    match t with
    | 0 => exact hv i j
    | t + 1 =>
      have := hl t (by omega) i j
      have e : k + 1 + t = k + (t + 1) := by omega
      rw [e] at this
      exact this

theorem codes_ok {h g : ℕ} {hh : h < 2} (m : ℕ) {hn : m + 1 ≤ 16} {K : FVec Ideal (Sk (m + 1)) .fp8e4m3 → PG (F := Ideal) PUnit} {Q : PUnit → sProp 𝕄} {s : St}
    (h11 : has11 X h g (m + 1) s.d11)
    (hK : ∀ p, (∀ (i : Fin ((m + 1) * 128)) (j : Fin 512), p (ValueIdx.ix2 i j) = Cd X h g (m + 1) i.val j.val) → Ok cd M X s (K p) Q) :
    Ok cd M X s (codes M.a11 hh m hn K) Q := by
  refine rows_ok cd M X h11 (m + 1) 0 (by omega) _ fun l hl => hK _ fun i j => ?_
  have hi : i = (⟨i.val / 128 * 128 + (⟨i.val % 128, Nat.mod_lt _ (by decide)⟩ : Fin 128).val, by dsimp only; omega⟩ : Fin ((m + 1) * 128)) :=
    Fin.ext (by dsimp only; omega)
  rw [hi]
  have hq : i.val / 128 < m + 1 := by omega
  refine (codesVal_apply m l.1 l.2 (i.val / 128) hq _ j).trans ((hl _ hq _ _).trans ?_)
  rw [Nat.zero_add]

/-- A head of the result put into the output. -/
def putO (h r : ℕ) (f : ℕ → ℕ → EReal) (d : S1x2x128x4096.Idx → EReal) : S1x2x128x4096.Idx → EReal :=
  fun y => if (y 1).val = h ∧ (y 3).val / 256 = r then f (y 2).val ((y 3).val % 256) else d y

theorem storeOut_ok {h g c n : ℕ} {gw : BitVec 32} {hh : h < 2} {hc : c < 4} {harg8 : M.a8.IsWhole}
    {hr : (Scalar.indexCast (Scalar.muli (Scalar.addi (Scalar.muli gw 4#32) (BitVec.ofNat 32 c)) 256#32) : Index).toNat + 256 ≤ 4096}
    (hrv : (Scalar.indexCast (Scalar.muli (Scalar.addi (Scalar.muli gw 4#32) (BitVec.ofNat 32 c)) 256#32) : Index).toNat = (g * 4 + c) * 256)
    {ot : FVec Ideal S256x512 .f32} {l : FVec Ideal S1x128 .f32} {vs : FVec Ideal S1x256 .f32} {K : PG (F := Ideal) PUnit} {Q : PUnit → sProp 𝕄} {s : St}
    (hot : ∀ (d : Fin 256) (j : Fin 512), ot (ValueIdx.ix2 d j) = ∑ kk : Fin (n * 128), nat X.x6 ![0, g, d.val, kk.val] * clampP (Wt X h g n kk.val j.val))
    (hl : ∀ b : Fin 128, l (ValueIdx.ix2 (0 : Fin 1) b) = Ls X h g n (c * 128 + b.val))
    (hvs : ∀ d : Fin 256, vs (ValueIdx.ix2 (0 : Fin 1) d) = nat X.x7 ![0, g, 0, d.val])
    (hK : Ok cd M X { s with d8 := putO h (g * 4 + c) (Ov X h g n c) s.d8 } K Q) :
    Ok cd M X s (storeOut M.a8 harg8 gw hh hc hr ot l vs K) Q := by
  refine ld_of cd (own_ld8 cd M X s) (st_of cd (own_st8 cd M X s) fun d' hd => ?_)
  have e : d' = putO h (g * 4 + c) (Ov X h g n c) s.d8 := by
    refine (upd_out ⟨g * 4 + c, by rw [hrv, Nat.mul_comm]⟩ hd).trans (funext fun y => ?_)
    rw [hrv, Nat.mul_div_cancel _ (by decide)]
    unfold putO
    by_cases hy : (y 1).val = h ∧ (y 3).val / 256 = g * 4 + c
    · rw [if_pos hy, if_pos hy, outVal_apply, hot, hl, hvs]
      rfl
    · rw [if_neg hy, if_neg hy]
  rw [e]
  exact hK

/-- What the offsets of a group are. -/
structure Gv (gw : BitVec 32) (g : ℕ) : Prop where
  g4 : (Scalar.indexCast gw : Index).toNat = g
  q : ∀ c < 4, (Scalar.indexCast (Scalar.addi (Scalar.muli gw 4#32) (BitVec.ofNat 32 c)) : Index).toNat = g * 4 + c
  o : ∀ c < 4, (Scalar.indexCast (Scalar.muli (Scalar.addi (Scalar.muli gw 4#32) (BitVec.ofNat 32 c)) 256#32) : Index).toNat = (g * 4 + c) * 256

/-- The results of a half of a group put into the output. -/
def putOs (h g : ℕ) (f : ℕ → ℕ → ℕ → EReal) (d : S1x2x128x4096.Idx → EReal) : S1x2x128x4096.Idx → EReal :=
  fun y => if (y 1).val = h ∧ (y 3).val / 1024 = g then f ((y 3).val / 256 % 4) (y 2).val ((y 3).val % 256) else d y

theorem putO_four (h g : ℕ) (f : ℕ → ℕ → ℕ → EReal) (d : S1x2x128x4096.Idx → EReal) :
    putO h (g * 4 + 3) (f 3) (putO h (g * 4 + 2) (f 2) (putO h (g * 4 + 1) (f 1) (putO h (g * 4 + 0) (f 0) d))) = putOs h g f d := by
  funext y
  unfold putO putOs
  by_cases hy : (y 1).val = h ∧ (y 3).val / 1024 = g
  · rw [if_pos hy]
    have h4 : (y 3).val / 256 % 4 = 0 ∨ (y 3).val / 256 % 4 = 1 ∨ (y 3).val / 256 % 4 = 2 ∨ (y 3).val / 256 % 4 = 3 := by omega
    rcases h4 with e | e | e | e <;> rw [e]
    · rw [if_neg (by omega), if_neg (by omega), if_neg (by omega), if_pos (by omega)]
    · rw [if_neg (by omega), if_neg (by omega), if_pos (by omega)]
    · rw [if_neg (by omega), if_pos (by omega)]
    · rw [if_pos (by omega)]
  · rw [if_neg hy, if_neg (by omega), if_neg (by omega), if_neg (by omega), if_neg (by omega)]

theorem outputs_ok {h g : ℕ} {gw : BitVec 32} (m : ℕ) {hh : h < 2} {hg : Bd gw} (hgv : Gv gw g) {hn : m + 1 ≤ 16} {harg8 : M.a8.IsWhole} {harg11 : M.a11.IsWhole}
    {K : PG (F := Ideal) PUnit} {Q : PUnit → sProp 𝕄} {s : St} (h9 : has9 X h g (m + 1) s.d9) (h10 : has10 X h g (m + 1) s.d10)
    (hK : Ok cd M X { s with d8 := putOs h g (Ov X h g (m + 1)) s.d8, d11 := putR h 0 (m + 1) (Cd X h g (m + 1)) s.d11 } K Q) :
    Ok cd M X s (outputs M.a3 M.a6 M.a7 M.a8 harg8 M.a9 M.a10 M.a11 harg11 gw m hh hg hn K) Q := by
  refine weights_ok cd M X m (hgv.q 0 (by omega)) h9 h10 fun l0 hl0 => ?_
  refine weights_ok cd M X m (hgv.q 1 (by omega)) h9 h10 fun l1 hl1 => ?_
  refine weights_ok cd M X m (hgv.q 2 (by omega)) h9 h10 fun l2 hl2 => ?_
  refine weights_ok cd M X m (hgv.q 3 (by omega)) h9 h10 fun l3 hl3 => ?_
  refine codes_ok cd M X (g := g) m (fun y h0 h1 => ?_) fun p hp => ?_
  · show putC h 3 0 (m + 1) _ (putC h 2 0 (m + 1) _ (putC h 1 0 (m + 1) _ (putC h 0 0 (m + 1) _ s.d11))) y = _
    rw [putC_four]
    unfold putR
    rw [if_pos ⟨h0, Nat.zero_le _, by omega⟩]
  refine ld_of cd (own_ld6 cd M X _) (ld_of cd (own_ld7 cd M X _) ?_)
  have hot : ∀ (d : Fin 256) (j : Fin 512), mix (F := Ideal) (n := m + 1) (fun x => X.x6 ((rVt hg.g4 hn).emb x)) p (ValueIdx.ix2 d j)
      = ∑ kk : Fin ((m + 1) * 128), nat X.x6 ![0, g, d.val, kk.val] * clampP (Wt X h g (m + 1) kk.val j.val) := by
    intro d j
    rw [mix_apply]
    refine Finset.sum_congr rfl fun kk _ => ?_
    rw [hp]
    congr 1
    refine (nat_eq _ _ _ fun a => ?_).symm
    match a with
    | ⟨0, _⟩ => rfl
    | ⟨1, _⟩ => exact hgv.g4.symm
    | ⟨2, _⟩ => show d.val = 0 + 1 * d.val; omega
    | ⟨3, _⟩ => show kk.val = 0 + 1 * kk.val; omega
  have hvs : ∀ d : Fin 256, shapeCast S1x256 (fun x => X.x7 ((rVs hg.g4).emb x)) shapeCasts_S1x1x1x256_S1x256 (ValueIdx.ix2 (0 : Fin 1) d) = nat X.x7 ![0, g, 0, d.val] := by
    intro d
    rw [shapeCast_apply _ _ _ (ValueIdx.ix4 (0 : Fin 1) (0 : Fin 1) (0 : Fin 1) d) (by
      rw [Shape.rowMajor_val_four, Shape.rowMajor_val_two]
      show ((0 * 1 + 0) * 1 + 0) * 256 + d.val = 0 * 256 + d.val
      omega)]
    refine (nat_eq _ _ _ fun a => ?_).symm
    match a with
    | ⟨0, _⟩ => rfl
    | ⟨1, _⟩ => exact hgv.g4.symm
    | ⟨2, _⟩ => rfl
    | ⟨3, _⟩ => show d.val = 0 + 1 * d.val; omega
  refine storeOut_ok cd M X (n := m + 1) (hgv.o 0 (by omega)) hot hl0 hvs (storeOut_ok cd M X (n := m + 1) (hgv.o 1 (by omega)) hot hl1 hvs
    (storeOut_ok cd M X (n := m + 1) (hgv.o 2 (by omega)) hot hl2 hvs (storeOut_ok cd M X (n := m + 1) (hgv.o 3 (by omega)) hot hl3 hvs ?_)))
  rw [← putO_four, ← putC_four] at hK
  exact hK

/-- The results of a group put into the output; `m` is the step. -/
def putG (m g : ℕ) (d : S1x2x128x4096.Idx → EReal) : S1x2x128x4096.Idx → EReal :=
  fun y => if (y 3).val / 1024 = g then Ov X (y 1).val g (m + (y 1).val * 8 + 1) ((y 3).val / 256 % 4) (y 2).val ((y 3).val % 256) else d y

theorem attend_ok {g : ℕ} {gw : BitVec 32} (m : ℕ) {hg : Bd gw} (hgv : Gv gw g) {hm : m < 8} {harg8 : M.a8.IsWhole} {harg11 : M.a11.IsWhole} {Q : PUnit → sProp 𝕄} {s : St}
    (hK : ∀ d9 d10 d11, own cd M X ⟨putG X m g s.d8, d9, d10, d11⟩ ⊢ Q ⟨⟩) :
    Ok cd M X s (attend M.a2 M.a3 M.a4 M.a5 M.a6 M.a7 M.a8 harg8 M.a9 M.a10 M.a11 harg11 gw m hg hm) Q := by
  have e : (Scalar.indexCast gw : Index).toNat = g := hgv.g4
  subst e
  refine scores_ok cd M X m (scores_ok cd M X (m + 8) ?_)
  refine outputs_ok cd M X m hgv (fun y h0 h1 => ?_) (fun y h0 => ?_) (outputs_ok cd M X (m + 8) hgv (fun y h0 h1 => ?_) (fun y h0 => ?_) ?_)
  · show putR 1 0 _ _ (putR 0 0 (m + 1) _ s.d9) y = _
    unfold putR
    rw [if_neg (by omega), if_pos ⟨h0, Nat.zero_le _, by omega⟩]
  · show putMs 1 _ (putMs 0 _ s.d10) y = _
    unfold putMs
    rw [if_neg (by omega), if_pos h0]
  · show putR 1 0 _ _ (putR 0 0 (m + 1) _ s.d9) y = _
    unfold putR
    rw [if_pos ⟨h0, Nat.zero_le _, by omega⟩]
  · show putMs 1 _ (putMs 0 _ s.d10) y = _
    unfold putMs
    rw [if_pos h0]
  · have e8 : putOs 1 (Scalar.indexCast gw : Index).toNat (Ov X 1 (Scalar.indexCast gw : Index).toNat (m + 8 + 1))
        (putOs 0 (Scalar.indexCast gw : Index).toNat (Ov X 0 (Scalar.indexCast gw : Index).toNat (m + 1)) s.d8) = putG X m (Scalar.indexCast gw : Index).toNat s.d8 := by
      funext y
      unfold putOs putG
      have hy : (y 1).val < 2 := (y 1).isLt
      by_cases hq : (y 3).val / 1024 = (Scalar.indexCast gw : Index).toNat
      · rw [if_pos hq]
        by_cases h1 : (y 1).val = 1
        · rw [if_pos ⟨h1, hq⟩, h1]
        · have h0 : (y 1).val = 0 := by omega
          rw [if_neg (fun h' => h1 h'.1), if_pos ⟨h0, hq⟩, h0]
      · rw [if_neg hq, if_neg (fun h' => hq h'.2), if_neg (fun h' => hq h'.2)]
    have := hK (putR 1 0 (m + 8 + 1) (Sc X 1 (Scalar.indexCast gw : Index).toNat (m + 8 + 1)) (putR 0 0 (m + 1) (Sc X 0 (Scalar.indexCast gw : Index).toNat (m + 1)) s.d9))
      (putMs 1 (Mx X 1 (Scalar.indexCast gw : Index).toNat (m + 8 + 1)) (putMs 0 (Mx X 0 (Scalar.indexCast gw : Index).toNat (m + 1)) s.d10))
      (putR 1 0 (m + 8 + 1) (Cd X 1 (Scalar.indexCast gw : Index).toNat (m + 8 + 1)) (putR 0 0 (m + 1) (Cd X 0 (Scalar.indexCast gw : Index).toNat (m + 1)) s.d11))
    rw [← e8] at this
    exact this.trans fupd_intro

theorem gv (j : Nat) (hj : j < 4) : Gv (grp j) j := by
  have : j = 0 ∨ j = 1 ∨ j = 2 ∨ j = 3 := by omega
  rcases this with rfl | rfl | rfl | rfl <;> exact ⟨by decide, by decide, by decide⟩

end Cert.KernelIdeal.Attend
-- ==== Proof.Whole.lean ====
/- The printed kernel is the parametric one: eight guarded loops over the groups of heads. -/
module

public import proofs.«01_k».proof.Proof.Attend

@[expose] public section

noncomputable section

namespace Cert.KernelIdeal.Attend

open Idealize.ShloMosaic Idealize.SL.Sem

variable {F : FTy → Type} [FloatOps F] [Facts]

open Facts Shapes1.Facts₀ K0.Facts₀

set_option maxRecDepth 100000 in
set_option maxHeartbeats 0 in
/-- The kernel's body is, at each step, the loop of `attend` over the four groups. -/
theorem body_eq (i : grid0.Coords) (arg2 : Memref sig .tc .vmem S1x1x2x4x512x256 .fp8e4m3) (harg2 : arg2.IsWhole) (arg3 : Memref sig .tc .vmem S1x1x2x16x128 .f32) (harg3 : arg3.IsWhole) (arg4 : Memref sig .tc .vmem S1x4x2048x256 .fp8e4m3) (harg4 : arg4.IsWhole) (arg5 : Memref sig .tc .vmem S1x4x2048x128 .f32) (harg5 : arg5.IsWhole) (arg6 : Memref sig .tc .vmem S1x4x256x2048 .fp8e4m3) (harg6 : arg6.IsWhole) (arg7 : Memref sig .tc .vmem S1x4x1x256 .f32) (harg7 : arg7.IsWhole) (arg8 : Memref sig .tc .vmem S1x2x128x4096 .bf16) (harg8 : arg8.IsWhole) (arg9 : Memref sig .tc .vmem S2x2048x512 .f32) (harg9 : arg9.IsWhole) (arg10 : Memref sig .tc .vmem S2x4x1x128 .f32) (harg10 : arg10.IsWhole) (arg11 : Memref sig .tc .vmem S2x2048x512 .fp8e4m3) (harg11 : arg11.IsWhole) :
    cc0_gqa_fp8_prompt (F := F) i arg2 harg2 arg3 harg3 arg4 harg4 arg5 harg5 arg6 harg6 arg7 harg7 arg8 harg8 arg9 harg9 arg10 harg10 arg11 harg11 =
    (do
      if h : k0_cond1 i = 1#1 then do
        Scf.Loop.for k0_t1_loop (k0_t1_ok i h) ⟨⟩ fun t _ => attend arg2 arg3 arg4 arg5 arg6 arg7 arg8 harg8 arg9 arg10 arg11 harg11 (grp t.val) 0 (bd t.val t.isLt) (by omega)
        pure ⟨⟩
      else do
        pure ⟨⟩
      if h : k0_cond2 i = 1#1 then do
        Scf.Loop.for k0_t2_loop (k0_t2_ok i h) ⟨⟩ fun t _ => attend arg2 arg3 arg4 arg5 arg6 arg7 arg8 harg8 arg9 arg10 arg11 harg11 (grp t.val) 1 (bd t.val t.isLt) (by omega)
        pure ⟨⟩
      else do
        pure ⟨⟩
      if h : k0_cond3 i = 1#1 then do
        Scf.Loop.for k0_t3_loop (k0_t3_ok i h) ⟨⟩ fun t _ => attend arg2 arg3 arg4 arg5 arg6 arg7 arg8 harg8 arg9 arg10 arg11 harg11 (grp t.val) 2 (bd t.val t.isLt) (by omega)
        pure ⟨⟩
      else do
        pure ⟨⟩
      if h : k0_cond4 i = 1#1 then do
        Scf.Loop.for k0_t4_loop (k0_t4_ok i h) ⟨⟩ fun t _ => attend arg2 arg3 arg4 arg5 arg6 arg7 arg8 harg8 arg9 arg10 arg11 harg11 (grp t.val) 3 (bd t.val t.isLt) (by omega)
        pure ⟨⟩
      else do
        pure ⟨⟩
      if h : k0_cond5 i = 1#1 then do
        Scf.Loop.for k0_t5_loop (k0_t5_ok i h) ⟨⟩ fun t _ => attend arg2 arg3 arg4 arg5 arg6 arg7 arg8 harg8 arg9 arg10 arg11 harg11 (grp t.val) 4 (bd t.val t.isLt) (by omega)
        pure ⟨⟩
      else do
        pure ⟨⟩
      if h : k0_cond6 i = 1#1 then do
        Scf.Loop.for k0_t6_loop (k0_t6_ok i h) ⟨⟩ fun t _ => attend arg2 arg3 arg4 arg5 arg6 arg7 arg8 harg8 arg9 arg10 arg11 harg11 (grp t.val) 5 (bd t.val t.isLt) (by omega)
        pure ⟨⟩
      else do
        pure ⟨⟩
      if h : k0_cond7 i = 1#1 then do
        Scf.Loop.for k0_t7_loop (k0_t7_ok i h) ⟨⟩ fun t _ => attend arg2 arg3 arg4 arg5 arg6 arg7 arg8 harg8 arg9 arg10 arg11 harg11 (grp t.val) 6 (bd t.val t.isLt) (by omega)
        pure ⟨⟩
      else do
        pure ⟨⟩
      if h : k0_cond8 i = 1#1 then do
        Scf.Loop.for k0_t8_loop (k0_t8_ok i h) ⟨⟩ fun t _ => attend arg2 arg3 arg4 arg5 arg6 arg7 arg8 harg8 arg9 arg10 arg11 harg11 (grp t.val) 7 (bd t.val t.isLt) (by omega)
        pure ⟨⟩
      else do
        pure ⟨⟩
      pure ⟨⟩ : PG (F := F) PUnit)
    := by
  rfl

end Cert.KernelIdeal.Attend
-- ==== Proof.Step.lean ====
/- One grid step: the loop over the groups, and the whole body in each of its eight cases. -/
module

public import proofs.«01_k».proof.Proof.Weights
public import proofs.«01_k».proof.Proof.Whole

@[expose] public section

noncomputable section

namespace Cert.KernelIdeal.Attend

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable [Facts]

open Facts Shapes1.Facts₀ K0.Facts₀

variable (cd : Dev nD) (M : Mem) (X : In)

/-- What a step leaves in the output; `m` is the step's number in its row. -/
def fin (m : ℕ) : S1x2x128x4096.Idx → EReal :=
  fun y => Ov X (y 1).val ((y 3).val / 1024) (m + (y 1).val * 8 + 1) ((y 3).val / 256 % 4) (y 2).val ((y 3).val % 256)

/-- The memory after a step. -/
def done (m : ℕ) : sProp 𝕄 := iprop(∃ d9 d10 d11, own cd M X ⟨fin X m, d9, d10, d11⟩)

/-- The memory after `k` groups. -/
def upto (m k : ℕ) : sProp 𝕄 := iprop(∃ s : St, ⌜∀ y, (y 3).val / 1024 < k → s.d8 y = fin X m y⌝ ∗ own cd M X s)

theorem upto_four (m : ℕ) : upto cd M X m 4 ⊢ done cd M X m := by
  unfold upto done
  iintro ⟨%s, %h, H⟩
  iexists s.d9, s.d10, s.d11
  have e : s.d8 = fin X m := funext fun y => h y (by have hy : (y 3).val < 4096 := (y 3).isLt; omega)
  rw [← e]
  iexact H

theorem step_ok (m k : ℕ) (hk : k < 4) (hm : m < 8) (hg : Bd (grp k)) (harg8 : M.a8.IsWhole) (harg11 : M.a11.IsWhole) :
    upto cd M X m k ⊢ WP cd (attend M.a2 M.a3 M.a4 M.a5 M.a6 M.a7 M.a8 harg8 M.a9 M.a10 M.a11 harg11 (grp k) m hg hm) (fun _ => upto cd M X m (k + 1)) := by
  have key : ∀ s : St, (∀ y, (y 3).val / 1024 < k → s.d8 y = fin X m y) → own cd M X s ⊢
      WP cd (attend M.a2 M.a3 M.a4 M.a5 M.a6 M.a7 M.a8 harg8 M.a9 M.a10 M.a11 harg11 (grp k) m hg hm) (fun _ => upto cd M X m (k + 1)) := by
    intro s hs
    refine attend_ok cd M X m (gv k hk) fun d9 d10 d11 => ?_
    unfold upto
    iintro H
    iexists (⟨putG X m k s.d8, d9, d10, d11⟩ : St)
    isplitr
    · ipureintro
      intro y hy
      show putG X m k s.d8 y = _
      unfold putG
      by_cases hq : (y 3).val / 1024 = k
      · rw [if_pos hq]
        unfold fin
        rw [hq]
      · rw [if_neg hq]
        exact hs y (by omega)
    · iexact H
  unfold upto at key ⊢
  iintro ⟨%s, %h, H⟩
  iapply (key s h) $$ H

theorem loop_ok (m : ℕ) (hm : m < 8) (harg8 : M.a8.IsWhole) (harg11 : M.a11.IsWhole) (l : Scf.Loop 32) (hok : l.OK) (hl : l.trips = 4) (hg : ∀ t : Fin l.trips, Bd (grp t.val))
    (s : St) : own cd M X s ⊢ WP cd (Scf.Loop.for l hok ⟨⟩ fun t _ => attend M.a2 M.a3 M.a4 M.a5 M.a6 M.a7 M.a8 harg8 M.a9 M.a10 M.a11 harg11 (grp t.val) m (hg t) hm) (fun _ => done cd M X m) := by
  refine BIBase.Entails.trans ?_ (Scf.wp_for frame (wpE (defs₀ (F := Ideal)) Variants.none cd none) Set.univ l.lb l.ub l.st hok ⟨⟩ _ (fun k _ => upto cd M X m k)
    (fun t _ => step_ok cd M X m t.val (hl ▸ t.isLt) hm (hg t) harg8 harg11))
  iintro H
  isplitl [H]
  · unfold upto
    iexists s
    isplitr
    · ipureintro
      intro y hy
      exact absurd hy (Nat.not_lt_zero _)
    · iexact H
  · iintro %a H
    have e : Scf.trips l.lb l.ub l.st = 4 := hl
    rw [e]
    iapply (upto_four cd M X m) $$ H

/-- A program followed by an empty return. -/
theorem wp_ret_unit (p : Prog (TpuEff nD τ sig (Elt Ideal) Λ₀ .tc) PUnit) (Q : sProp 𝕄) :
    WP cd p (fun _ => Q) ⊢ WP cd (do p; pure ⟨⟩) (fun _ => Q) := by
  unfold WP
  rw [wp_bind]
  exact wp_mono _ _ _ fun _ => fupd_intro

theorem body_ok0 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : k0_cond1 i = 1#1) (h1 : ¬k0_cond2 i = 1#1) (h2 : ¬k0_cond3 i = 1#1) (h3 : ¬k0_cond4 i = 1#1) (h4 : ¬k0_cond5 i = 1#1) (h5 : ¬k0_cond6 i = 1#1) (h6 : ¬k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 0) := by
  rw [body_eq]
  simp only [dif_pos h0, dif_neg h1, dif_neg h2, dif_neg h3, dif_neg h4, dif_neg h5, dif_neg h6, dif_neg h7]
  refine (loop_ok cd M X 0 (by omega) w8 w11 k0_t1_loop (k0_t1_ok i h0) rfl (fun t => bd t.val t.isLt) s).trans ?_
  exact wp_ret_unit cd _ _

theorem body_ok1 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : k0_cond2 i = 1#1) (h2 : ¬k0_cond3 i = 1#1) (h3 : ¬k0_cond4 i = 1#1) (h4 : ¬k0_cond5 i = 1#1) (h5 : ¬k0_cond6 i = 1#1) (h6 : ¬k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 1) := by
  rw [body_eq]
  simp only [dif_neg h0, dif_pos h1, dif_neg h2, dif_neg h3, dif_neg h4, dif_neg h5, dif_neg h6, dif_neg h7]
  refine (loop_ok cd M X 1 (by omega) w8 w11 k0_t2_loop (k0_t2_ok i h1) rfl (fun t => bd t.val t.isLt) s).trans ?_
  exact wp_ret_unit cd _ _

theorem body_ok2 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : ¬k0_cond2 i = 1#1) (h2 : k0_cond3 i = 1#1) (h3 : ¬k0_cond4 i = 1#1) (h4 : ¬k0_cond5 i = 1#1) (h5 : ¬k0_cond6 i = 1#1) (h6 : ¬k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 2) := by
  rw [body_eq]
  simp only [dif_neg h0, dif_neg h1, dif_pos h2, dif_neg h3, dif_neg h4, dif_neg h5, dif_neg h6, dif_neg h7]
  refine (loop_ok cd M X 2 (by omega) w8 w11 k0_t3_loop (k0_t3_ok i h2) rfl (fun t => bd t.val t.isLt) s).trans ?_
  exact wp_ret_unit cd _ _

theorem body_ok3 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : ¬k0_cond2 i = 1#1) (h2 : ¬k0_cond3 i = 1#1) (h3 : k0_cond4 i = 1#1) (h4 : ¬k0_cond5 i = 1#1) (h5 : ¬k0_cond6 i = 1#1) (h6 : ¬k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 3) := by
  rw [body_eq]
  simp only [dif_neg h0, dif_neg h1, dif_neg h2, dif_pos h3, dif_neg h4, dif_neg h5, dif_neg h6, dif_neg h7]
  refine (loop_ok cd M X 3 (by omega) w8 w11 k0_t4_loop (k0_t4_ok i h3) rfl (fun t => bd t.val t.isLt) s).trans ?_
  exact wp_ret_unit cd _ _

theorem body_ok4 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : ¬k0_cond2 i = 1#1) (h2 : ¬k0_cond3 i = 1#1) (h3 : ¬k0_cond4 i = 1#1) (h4 : k0_cond5 i = 1#1) (h5 : ¬k0_cond6 i = 1#1) (h6 : ¬k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 4) := by
  rw [body_eq]
  simp only [dif_neg h0, dif_neg h1, dif_neg h2, dif_neg h3, dif_pos h4, dif_neg h5, dif_neg h6, dif_neg h7]
  refine (loop_ok cd M X 4 (by omega) w8 w11 k0_t5_loop (k0_t5_ok i h4) rfl (fun t => bd t.val t.isLt) s).trans ?_
  exact wp_ret_unit cd _ _

theorem body_ok5 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : ¬k0_cond2 i = 1#1) (h2 : ¬k0_cond3 i = 1#1) (h3 : ¬k0_cond4 i = 1#1) (h4 : ¬k0_cond5 i = 1#1) (h5 : k0_cond6 i = 1#1) (h6 : ¬k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 5) := by
  rw [body_eq]
  simp only [dif_neg h0, dif_neg h1, dif_neg h2, dif_neg h3, dif_neg h4, dif_pos h5, dif_neg h6, dif_neg h7]
  refine (loop_ok cd M X 5 (by omega) w8 w11 k0_t6_loop (k0_t6_ok i h5) rfl (fun t => bd t.val t.isLt) s).trans ?_
  exact wp_ret_unit cd _ _

theorem body_ok6 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : ¬k0_cond2 i = 1#1) (h2 : ¬k0_cond3 i = 1#1) (h3 : ¬k0_cond4 i = 1#1) (h4 : ¬k0_cond5 i = 1#1) (h5 : ¬k0_cond6 i = 1#1) (h6 : k0_cond7 i = 1#1) (h7 : ¬k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 6) := by
  rw [body_eq]
  simp only [dif_neg h0, dif_neg h1, dif_neg h2, dif_neg h3, dif_neg h4, dif_neg h5, dif_pos h6, dif_neg h7]
  refine (loop_ok cd M X 6 (by omega) w8 w11 k0_t7_loop (k0_t7_ok i h6) rfl (fun t => bd t.val t.isLt) s).trans ?_
  exact wp_ret_unit cd _ _

theorem body_ok7 (i : grid0.Coords) (w2 : M.a2.IsWhole) (w3 : M.a3.IsWhole) (w4 : M.a4.IsWhole) (w5 : M.a5.IsWhole) (w6 : M.a6.IsWhole) (w7 : M.a7.IsWhole) (w8 : M.a8.IsWhole) (w9 : M.a9.IsWhole) (w10 : M.a10.IsWhole) (w11 : M.a11.IsWhole) (h0 : ¬k0_cond1 i = 1#1) (h1 : ¬k0_cond2 i = 1#1) (h2 : ¬k0_cond3 i = 1#1) (h3 : ¬k0_cond4 i = 1#1) (h4 : ¬k0_cond5 i = 1#1) (h5 : ¬k0_cond6 i = 1#1) (h6 : ¬k0_cond7 i = 1#1) (h7 : k0_cond8 i = 1#1) (s : St) :
    own cd M X s ⊢ WP cd (cc0_gqa_fp8_prompt (F := Ideal) i M.a2 w2 M.a3 w3 M.a4 w4 M.a5 w5 M.a6 w6 M.a7 w7 M.a8 w8 M.a9 w9 M.a10 w10 M.a11 w11) (fun _ => done cd M X 7) := by
  rw [body_eq]
  simp only [dif_neg h0, dif_neg h1, dif_neg h2, dif_neg h3, dif_neg h4, dif_neg h5, dif_neg h6, dif_pos h7]
  refine (loop_ok cd M X 7 (by omega) w8 w11 k0_t8_loop (k0_t8_ok i h7) rfl (fun t => bd t.val t.isLt) s).trans ?_
  exact wp_ret_unit cd _ _

end Cert.KernelIdeal.Attend
-- ==== Proof.Run.lean ====
/- The whole run over the extended reals: what each point leaves in the output's buffer, the proof data, the body
   at every point, the launch, and the frame. -/
module

public import proofs.«01_k».proof.Proof.Step
public import proofs.«01_k».proof.Proof.Gen.KernelIdeal.Frame.Runs
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Attend

local notation "𝕄" => MT nD τ sig Unit (Elt Ideal) ℕ (UR sig nD τ) ℕ

variable (m : (ℓ : Loc nD τ sig) → Buf (Elt Ideal) ℓ) (ρ : Dev nD → PrngReg)

/-- The buffers the body runs on at point `t`. -/
def mem (t : Fin cfg0.N) : Mem :=
  ⟨ms0_0 t, ms0_1 t, ms0_2 t, ms0_3 t, ms0_4 t, ms0_5 t, ms0_6 t, scM0_0, scM0_1, scM0_2⟩

/-- What the operands hold at point `t`: the blocks of the arrays. -/
def ins (c : Dev nD) (t : Fin cfg0.N) : In :=
  ⟨iblk m c 0 t, iblk m c 1 t, iblk m c 2 t, iblk m c 3 t, iblk m c 4 t, iblk m c 5 t⟩

theorem body_at (c : Dev nD) (t : Fin cfg0.N) (X : In) (s : St) :
    own c (mem t) X s ⊢ WP c (bodyAt0 t) (fun _ => done c (mem t) X (t.val % 8)) := by
  have hlt : t.val % 8 < 8 := Nat.mod_lt _ (by decide)
  by_cases h : t.val % 8 = 0
  · rw [h]
    exact body_ok0 c (mem t) X (grid0.coords t) (hs0_0 t) (hs0_1 t) (hs0_2 t) (hs0_3 t) (hs0_4 t) (hs0_5 t) (hs0_6 t) (Memref.isWhole_whole _) (Memref.isWhole_whole _) (Memref.isWhole_whole _) ((hcond0_0 t).mpr h) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) (fun hh => absurd ((hcond0_7 t).mp hh) (by omega)) s
  have n0 := h
  clear h
  by_cases h : t.val % 8 = 1
  · rw [h]
    exact body_ok1 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) ((hcond0_1 t).mpr h) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) (fun hh => absurd ((hcond0_7 t).mp hh) (by omega)) s
  have n1 := h
  clear h
  by_cases h : t.val % 8 = 2
  · rw [h]
    exact body_ok2 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) (fun hh => absurd ((hcond0_1 t).mp hh) (by omega)) ((hcond0_2 t).mpr h) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) (fun hh => absurd ((hcond0_7 t).mp hh) (by omega)) s
  have n2 := h
  clear h
  by_cases h : t.val % 8 = 3
  · rw [h]
    exact body_ok3 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) (fun hh => absurd ((hcond0_1 t).mp hh) (by omega)) (fun hh => absurd ((hcond0_2 t).mp hh) (by omega)) ((hcond0_3 t).mpr h) (fun hh => absurd ((hcond0_4 t).mp hh) (by omega)) (fun hh => absurd ((hcond0_5 t).mp hh) (by omega)) (fun hh => absurd ((hcond0_6 t).mp hh) (by omega)) (fun hh => absurd ((hcond0_7 t).mp hh) (by omega)) s
  have n3 := h
  clear h
  by_cases h : t.val % 8 = 4
  · rw [h]
    exact body_ok4 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) (fun hh => absurd ((hcond0_1 t).mp hh) (by omega)) (fun hh => absurd ((hcond0_2 t).mp hh) (by omega)) (fun hh => absurd ((hcond0_3 t).mp hh) (by omega)) ((hcond0_4 t).mpr h) (fun hh => absurd ((hcond0_5 t).mp hh) (by omega)) (fun hh => absurd ((hcond0_6 t).mp hh) (by omega)) (fun hh => absurd ((hcond0_7 t).mp hh) (by omega)) s
  have n4 := h
  clear h
  by_cases h : t.val % 8 = 5
  · rw [h]
    exact body_ok5 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) ((hcond0_5 t).mpr h) (fun hh => absurd ((hcond0_6 t).mp hh) (by omega)) (fun hh => absurd ((hcond0_7 t).mp hh) (by omega)) s
  have n5 := h
  clear h
  by_cases h : t.val % 8 = 6
  · rw [h]
    exact body_ok6 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) ((hcond0_6 t).mpr h) (fun hh => absurd ((hcond0_7 t).mp hh) (by omega)) s
  have n6 := h
  clear h
  by_cases h : t.val % 8 = 7
  · rw [h]
    exact body_ok7 c (mem t) X (grid0.coords t) (hs0_0 t) (hs0_1 t) (hs0_2 t) (hs0_3 t) (hs0_4 t) (hs0_5 t) (hs0_6 t) (Memref.isWhole_whole _) (Memref.isWhole_whole _) (Memref.isWhole_whole _) (fun hh => absurd ((hcond0_0 t).mp hh) (by omega)) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) ((hcond0_7 t).mpr h) s
  have n7 := h
  clear h
  omega

theorem live6 (t : Fin cfg0.N) : cfg0.idle 6 (grid0.coords t) = false := by
  have hlt : t.val % 8 < 8 := Nat.mod_lt _ (by decide)
  by_cases h : t.val % 8 = 0
  · exact liveAt0_6_A t ((hcond0_0 t).mpr h) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) (fun hh => absurd ((hcond0_7 t).mp hh) (by omega))
  have n0 := h
  clear h
  by_cases h : t.val % 8 = 1
  · exact liveAt0_6_B t (fun hh => absurd ((hcond0_0 t).mp hh) (by omega)) ((hcond0_1 t).mpr h) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) (fun hh => absurd ((hcond0_7 t).mp hh) (by omega))
  have n1 := h
  clear h
  by_cases h : t.val % 8 = 2
  · exact liveAt0_6_C t (fun hh => absurd ((hcond0_0 t).mp hh) (by omega)) (fun hh => absurd ((hcond0_1 t).mp hh) (by omega)) ((hcond0_2 t).mpr h) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) (fun hh => absurd ((hcond0_7 t).mp hh) (by omega))
  have n2 := h
  clear h
  by_cases h : t.val % 8 = 3
  · exact liveAt0_6_D t (fun hh => absurd ((hcond0_0 t).mp hh) (by omega)) (fun hh => absurd ((hcond0_1 t).mp hh) (by omega)) (fun hh => absurd ((hcond0_2 t).mp hh) (by omega)) ((hcond0_3 t).mpr h) (fun hh => absurd ((hcond0_4 t).mp hh) (by omega)) (fun hh => absurd ((hcond0_5 t).mp hh) (by omega)) (fun hh => absurd ((hcond0_6 t).mp hh) (by omega)) (fun hh => absurd ((hcond0_7 t).mp hh) (by omega))
  have n3 := h
  clear h
  by_cases h : t.val % 8 = 4
  · exact liveAt0_6_E t (fun hh => absurd ((hcond0_0 t).mp hh) (by omega)) (fun hh => absurd ((hcond0_1 t).mp hh) (by omega)) (fun hh => absurd ((hcond0_2 t).mp hh) (by omega)) (fun hh => absurd ((hcond0_3 t).mp hh) (by omega)) ((hcond0_4 t).mpr h) (fun hh => absurd ((hcond0_5 t).mp hh) (by omega)) (fun hh => absurd ((hcond0_6 t).mp hh) (by omega)) (fun hh => absurd ((hcond0_7 t).mp hh) (by omega))
  have n4 := h
  clear h
  by_cases h : t.val % 8 = 5
  · exact liveAt0_6_F t (fun hh => absurd ((hcond0_0 t).mp hh) (by omega)) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) ((hcond0_5 t).mpr h) (fun hh => absurd ((hcond0_6 t).mp hh) (by omega)) (fun hh => absurd ((hcond0_7 t).mp hh) (by omega))
  have n5 := h
  clear h
  by_cases h : t.val % 8 = 6
  · exact liveAt0_6_G t (fun hh => absurd ((hcond0_0 t).mp hh) (by omega)) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) ((hcond0_6 t).mpr h) (fun hh => absurd ((hcond0_7 t).mp hh) (by omega))
  have n6 := h
  clear h
  by_cases h : t.val % 8 = 7
  · exact liveAt0_6_H t (fun hh => absurd ((hcond0_0 t).mp hh) (by omega)) (fun hh => absurd ((hcond0_1 t).mp hh) (by omega)) (fun hh => absurd ((hcond0_2 t).mp hh) (by omega)) (fun hh => absurd ((hcond0_3 t).mp hh) (by omega)) (fun hh => absurd ((hcond0_4 t).mp hh) (by omega)) (fun hh => absurd ((hcond0_5 t).mp hh) (by omega)) (fun hh => absurd ((hcond0_6 t).mp hh) (by omega)) ((hcond0_7 t).mpr h)
  have n7 := h
  clear h
  omega

/-- The proof data: each operand's buffer keeps its block, the output's holds the step's result. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fin (ins m c t) (t.val % 8)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = fin (ins m c t) (t.val % 8) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [live6 t], after0_6]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩⟩
  iapply (wp_wand_r frame (wpE (defs₀ (F := Ideal)) Variants.none c none) (Q := fun _ => done c (mem t) (ins m c t) (t.val % 8)))
  isplitl [H0 H1 H2 H3 H4 H5 H6 HS0 HS1 HS2]
  · iapply (body_at c t (ins m c t) ⟨(dats m 0 c).before 6 t d6, e0, e1, e2⟩)
    unfold Attend.own has
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iexact HS2
  · iintro %_ H
    unfold done Attend.own has
    icases H with ⟨%d9, %d10, %d11, H0, H1, H2, H3, H4, H5, H6, HS0, HS1, HS2⟩
    isplitl [HS0 HS1 HS2 Hg]
    · isplitl [HS0 HS1 HS2]
      · isplitl [HS0]
        · iexists d9; iexact HS0
        isplitl [HS1]
        · iexists d10; iexact HS1
        iexists d11; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch: the arrays end as the proof data say, and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Run
-- ==== Proof.Host.lean ====
/- What the six operands hold at a grid point, in terms of the arguments. -/
module

public import proofs.«01_k».proof.Proof.Run
public import Idealize.ShloMosaic.Lib.Pipeline.ValueKit
public import Idealize.ShloMosaic.Lib.StableHlo.ReadAt

@[expose] public section

noncomputable section

namespace Cert.KernelIdeal.Host

open Idealize.ShloMosaic Idealize.ShloMosaic.TcCoe Idealize.ShloMosaic.Tactic
open Cert.KernelIdeal.Gen Cert.KernelIdeal.Attend Cert.KernelIdeal.Run

variable (m : (ℓ : Loc nD τ sig) → Buf (Elt Ideal) ℓ) (c : Dev nD) (t : Fin cfg0.N)

theorem idx0 : ∀ t : Fin cfg0.N, win0_0.index t = ![t.val / 8, t.val % 8, 0, 0, 0, 0] := (by decide +kernel : ∀ t : Fin grid0.N, win0_0.index t = ![t.val / 8, t.val % 8, 0, 0, 0, 0])
theorem idx1 : ∀ t : Fin cfg0.N, win0_1.index t = ![t.val / 8, t.val % 8, 0, 0, 0] := (by decide +kernel : ∀ t : Fin grid0.N, win0_1.index t = ![t.val / 8, t.val % 8, 0, 0, 0])
theorem idx2 : ∀ t : Fin cfg0.N, win0_2.index t = ![t.val / 8, 0, 0, 0] := (by decide +kernel : ∀ t : Fin grid0.N, win0_2.index t = ![t.val / 8, 0, 0, 0])
theorem idx3 : ∀ t : Fin cfg0.N, win0_3.index t = ![t.val / 8, 0, 0, 0] := (by decide +kernel : ∀ t : Fin grid0.N, win0_3.index t = ![t.val / 8, 0, 0, 0])
theorem idx4 : ∀ t : Fin cfg0.N, win0_4.index t = ![t.val / 8, 0, 0, 0] := (by decide +kernel : ∀ t : Fin grid0.N, win0_4.index t = ![t.val / 8, 0, 0, 0])
theorem idx5 : ∀ t : Fin cfg0.N, win0_5.index t = ![t.val / 8, 0, 0, 0] := (by decide +kernel : ∀ t : Fin grid0.N, win0_5.index t = ![t.val / 8, 0, 0, 0])
theorem idx6 : ∀ t : Fin cfg0.N, win0_6.index t = ![t.val / 8, 0, t.val % 8, 0] := (by decide +kernel : ∀ t : Fin grid0.N, win0_6.index t = ![t.val / 8, 0, t.val % 8, 0])

/-! The arguments, at natural coordinates. -/
def a0 (b s h d : ℕ) : EReal := nat (sh := S8x2048x16x256) (m ((c : Thread nD τ).loc main_arg0)) ![b, s, h, d]
def a1 (b s h : ℕ) : EReal := nat (sh := S8x2048x16) (m ((c : Thread nD τ).loc main_arg1)) ![b, s, h]
def a2 (b s g d : ℕ) : EReal := nat (sh := S8x2048x4x256) (m ((c : Thread nD τ).loc main_arg2)) ![b, s, g, d]
def a3 (b s g : ℕ) : EReal := nat (sh := S8x2048x4) (m ((c : Thread nD τ).loc main_arg3)) ![b, s, g]
def a4 (b s g d : ℕ) : EReal := nat (sh := S8x2048x4x256) (m ((c : Thread nD τ).loc main_arg4)) ![b, s, g, d]
def a5 (b g d : ℕ) : EReal := nat (sh := S8x4x256) (m ((c : Thread nD τ).loc main_arg5)) ![b, g, d]

/-- A coordinate's equation, from the coordinates of the literal indices. -/
theorem nat_ext {sh : Shape} (x : sh.Idx → EReal) (y : sh.Idx) (p : Fin sh.rank → ℕ) (h : ∀ a, p a = (y a).val) : x y = nat x p := (nat_eq x p y h).symm

/-! The operand arrays after the host operations. -/

theorem v2 (y : S8x8x2x4x512x256.Idx) : V m c main_v2 y = a0 m c (y 0).val ((y 2).val * 1024 + (y 1).val * 128 + (y 4).val % 128) ((y 3).val * 4 + (y 4).val / 128) (y 5).val := by
  have h0 : (y 0).val < 8 := (y 0).isLt; have h1 : (y 1).val < 8 := (y 1).isLt; have h2 : (y 2).val < 2 := (y 2).isLt; have h3 : (y 3).val < 4 := (y 3).isLt; have h4 : (y 4).val < 512 := (y 4).isLt; have h5 : (y 5).val < 256 := (y 5).isLt
  unfold V
  after_reads_at
  exact nat_ext _ _ _ fun a => by fin_cases a <;> rfl

theorem v6 (y : S8x8x2x16x128.Idx) : V m c main_v6 y = max (a1 m c (y 0).val ((y 2).val * 1024 + (y 1).val * 128 + (y 4).val) (y 3).val) (Ideal.ofBits .f32 0x00800000#32) := by
  have h0 : (y 0).val < 8 := (y 0).isLt; have h1 : (y 1).val < 8 := (y 1).isLt; have h2 : (y 2).val < 2 := (y 2).isLt; have h3 : (y 3).val < 16 := (y 3).isLt; have h4 : (y 4).val < 128 := (y 4).isLt
  unfold V
  after_reads_at
  exact congrArg (max · _) (nat_ext _ _ _ fun a => by fin_cases a <;> rfl)

theorem v7 (y : S8x4x2048x256.Idx) : V m c main_v7 y = a2 m c (y 0).val (y 2).val (y 1).val (y 3).val := by
  have h0 : (y 0).val < 8 := (y 0).isLt; have h1 : (y 1).val < 4 := (y 1).isLt; have h2 : (y 2).val < 2048 := (y 2).isLt; have h3 : (y 3).val < 256 := (y 3).isLt
  unfold V
  after_reads_at
  exact nat_ext _ _ _ fun a => by fin_cases a <;> rfl

theorem v14 (y : S8x4x2048x128.Idx) : V m c main_v14 y = a3 m c (y 0).val (y 2).val (y 1).val * Ideal.div (Ideal.ofBits .f32 0x3D800000#32) (Ideal.log (Ideal.ofBits .f32 0x40000000#32)) := by
  have h0 : (y 0).val < 8 := (y 0).isLt; have h1 : (y 1).val < 4 := (y 1).isLt; have h2 : (y 2).val < 2048 := (y 2).isLt; have h3 : (y 3).val < 128 := (y 3).isLt
  unfold V
  after_reads_at
  exact congrArg (· * _) (nat_ext _ _ _ fun a => by fin_cases a <;> rfl)

theorem v15 (y : S8x4x256x2048.Idx) : V m c main_v15 y = a4 m c (y 0).val (y 3).val (y 1).val (y 2).val := by
  have h0 : (y 0).val < 8 := (y 0).isLt; have h1 : (y 1).val < 4 := (y 1).isLt; have h2 : (y 2).val < 256 := (y 2).isLt; have h3 : (y 3).val < 2048 := (y 3).isLt
  unfold V
  after_reads_at
  exact nat_ext _ _ _ fun a => by fin_cases a <;> rfl

theorem v16 (y : S8x4x1x256.Idx) : V m c main_v16 y = a5 m c (y 0).val (y 1).val (y 3).val := by
  have h0 : (y 0).val < 8 := (y 0).isLt; have h1 : (y 1).val < 4 := (y 1).isLt; have h2 : (y 2).val < 1 := (y 2).isLt; have h3 : (y 3).val < 256 := (y 3).isLt
  unfold V
  after_reads_at
  exact nat_ext _ _ _ fun a => by fin_cases a <;> rfl

/-! The blocks at grid point `t`: row `t / 8`, step `t % 8`. -/

theorem x2_at (h g q d : ℕ) (hh : h < 2) (hg : g < 4) (hq : q < 512) (hd : d < 256) : nat (ins m c t).x2 ![0, 0, h, g, q, d] = a0 m c (t.val / 8) (h * 1024 + t.val % 8 * 128 + q % 128) (g * 4 + q / 128) d := by
  rw [nat_eq (ins m c t).x2 _ (ValueIdx.ix6 (0 : Fin 1) (0 : Fin 1) (⟨h, hh⟩ : Fin 2) (⟨g, hg⟩ : Fin 4) (⟨q, hq⟩ : Fin 512) (⟨d, hd⟩ : Fin 256)) (fun a => by fin_cases a <;> rfl)]
  show iblk m c 0 t (ValueIdx.ix6 (0 : Fin 1) (0 : Fin 1) (⟨h, hh⟩ : Fin 2) (⟨g, hg⟩ : Fin 4) (⟨q, hq⟩ : Fin 512) (⟨d, hd⟩ : Fin 256)) = _
  blk_simp [iblk, idx0]
  rw [v2]
  have e : ∀ a, (((win0_0.blk t).view.emb (ValueIdx.ix6 (0 : Fin 1) (0 : Fin 1) (⟨h, hh⟩ : Fin 2) (⟨g, hg⟩ : Fin 4) (⟨q, hq⟩ : Fin 512) (⟨d, hd⟩ : Fin 256))) a).val = (![t.val / 8, t.val % 8, h, g, q, d] : Fin 6 → ℕ) a := fun a => by
    fin_cases a <;> blk_simp [idx0] <;> simp
  have e0 := e 0; have e1 := e 1; have e2 := e 2; have e3 := e 3; have e4 := e 4; have e5 := e 5
  simp only [e0, e1, e2, e3, e4, e5]
  rfl

theorem x3_at (h g q : ℕ) (hh : h < 2) (hg : g < 16) (hq : q < 128) : nat (ins m c t).x3 ![0, 0, h, g, q] = max (a1 m c (t.val / 8) (h * 1024 + t.val % 8 * 128 + q) g) (Ideal.ofBits .f32 0x00800000#32) := by
  rw [nat_eq (ins m c t).x3 _ (ValueIdx.ix5 (0 : Fin 1) (0 : Fin 1) (⟨h, hh⟩ : Fin 2) (⟨g, hg⟩ : Fin 16) (⟨q, hq⟩ : Fin 128)) (fun a => by fin_cases a <;> rfl)]
  show iblk m c 1 t (ValueIdx.ix5 (0 : Fin 1) (0 : Fin 1) (⟨h, hh⟩ : Fin 2) (⟨g, hg⟩ : Fin 16) (⟨q, hq⟩ : Fin 128)) = _
  blk_simp [iblk, idx1]
  rw [v6]
  have e : ∀ a, (((win0_1.blk t).view.emb (ValueIdx.ix5 (0 : Fin 1) (0 : Fin 1) (⟨h, hh⟩ : Fin 2) (⟨g, hg⟩ : Fin 16) (⟨q, hq⟩ : Fin 128))) a).val = (![t.val / 8, t.val % 8, h, g, q] : Fin 5 → ℕ) a := fun a => by
    fin_cases a <;> blk_simp [idx1] <;> simp
  have e0 := e 0; have e1 := e 1; have e2 := e 2; have e3 := e 3; have e4 := e 4
  simp only [e0, e1, e2, e3, e4]
  rfl

theorem x4_at (g k d : ℕ) (hg : g < 4) (hk : k < 2048) (hd : d < 256) : nat (ins m c t).x4 ![0, g, k, d] = a2 m c (t.val / 8) k g d := by
  rw [nat_eq (ins m c t).x4 _ (ValueIdx.ix4 (0 : Fin 1) (⟨g, hg⟩ : Fin 4) (⟨k, hk⟩ : Fin 2048) (⟨d, hd⟩ : Fin 256)) (fun a => by fin_cases a <;> rfl)]
  show iblk m c 2 t (ValueIdx.ix4 (0 : Fin 1) (⟨g, hg⟩ : Fin 4) (⟨k, hk⟩ : Fin 2048) (⟨d, hd⟩ : Fin 256)) = _
  blk_simp [iblk, idx2]
  rw [v7]
  have e : ∀ a, (((win0_2.blk t).view.emb (ValueIdx.ix4 (0 : Fin 1) (⟨g, hg⟩ : Fin 4) (⟨k, hk⟩ : Fin 2048) (⟨d, hd⟩ : Fin 256))) a).val = (![t.val / 8, g, k, d] : Fin 4 → ℕ) a := fun a => by
    fin_cases a <;> blk_simp [idx2] <;> simp
  have e0 := e 0; have e1 := e 1; have e2 := e 2; have e3 := e 3
  simp only [e0, e1, e2, e3]
  rfl

theorem x5_at (g k l : ℕ) (hg : g < 4) (hk : k < 2048) (hl : l < 128) : nat (ins m c t).x5 ![0, g, k, l] = a3 m c (t.val / 8) k g * Ideal.div (Ideal.ofBits .f32 0x3D800000#32) (Ideal.log (Ideal.ofBits .f32 0x40000000#32)) := by
  rw [nat_eq (ins m c t).x5 _ (ValueIdx.ix4 (0 : Fin 1) (⟨g, hg⟩ : Fin 4) (⟨k, hk⟩ : Fin 2048) (⟨l, hl⟩ : Fin 128)) (fun a => by fin_cases a <;> rfl)]
  show iblk m c 3 t (ValueIdx.ix4 (0 : Fin 1) (⟨g, hg⟩ : Fin 4) (⟨k, hk⟩ : Fin 2048) (⟨l, hl⟩ : Fin 128)) = _
  blk_simp [iblk, idx3]
  rw [v14]
  have e : ∀ a, (((win0_3.blk t).view.emb (ValueIdx.ix4 (0 : Fin 1) (⟨g, hg⟩ : Fin 4) (⟨k, hk⟩ : Fin 2048) (⟨l, hl⟩ : Fin 128))) a).val = (![t.val / 8, g, k, l] : Fin 4 → ℕ) a := fun a => by
    fin_cases a <;> blk_simp [idx3] <;> simp
  have e0 := e 0; have e1 := e 1; have e2 := e 2; have e3 := e 3
  simp only [e0, e1, e2, e3]
  rfl

theorem x6_at (g d k : ℕ) (hg : g < 4) (hd : d < 256) (hk : k < 2048) : nat (ins m c t).x6 ![0, g, d, k] = a4 m c (t.val / 8) k g d := by
  rw [nat_eq (ins m c t).x6 _ (ValueIdx.ix4 (0 : Fin 1) (⟨g, hg⟩ : Fin 4) (⟨d, hd⟩ : Fin 256) (⟨k, hk⟩ : Fin 2048)) (fun a => by fin_cases a <;> rfl)]
  show iblk m c 4 t (ValueIdx.ix4 (0 : Fin 1) (⟨g, hg⟩ : Fin 4) (⟨d, hd⟩ : Fin 256) (⟨k, hk⟩ : Fin 2048)) = _
  blk_simp [iblk, idx4]
  rw [v15]
  have e : ∀ a, (((win0_4.blk t).view.emb (ValueIdx.ix4 (0 : Fin 1) (⟨g, hg⟩ : Fin 4) (⟨d, hd⟩ : Fin 256) (⟨k, hk⟩ : Fin 2048))) a).val = (![t.val / 8, g, d, k] : Fin 4 → ℕ) a := fun a => by
    fin_cases a <;> blk_simp [idx4] <;> simp
  have e0 := e 0; have e1 := e 1; have e2 := e 2; have e3 := e 3
  simp only [e0, e1, e2, e3]
  rfl

theorem x7_at (g d : ℕ) (hg : g < 4) (hd : d < 256) : nat (ins m c t).x7 ![0, g, 0, d] = a5 m c (t.val / 8) g d := by
  rw [nat_eq (ins m c t).x7 _ (ValueIdx.ix4 (0 : Fin 1) (⟨g, hg⟩ : Fin 4) (0 : Fin 1) (⟨d, hd⟩ : Fin 256)) (fun a => by fin_cases a <;> rfl)]
  show iblk m c 5 t (ValueIdx.ix4 (0 : Fin 1) (⟨g, hg⟩ : Fin 4) (0 : Fin 1) (⟨d, hd⟩ : Fin 256)) = _
  blk_simp [iblk, idx5]
  rw [v16]
  have e : ∀ a, (((win0_5.blk t).view.emb (ValueIdx.ix4 (0 : Fin 1) (⟨g, hg⟩ : Fin 4) (0 : Fin 1) (⟨d, hd⟩ : Fin 256))) a).val = (![t.val / 8, g, 0, d] : Fin 4 → ℕ) a := fun a => by
    fin_cases a <;> blk_simp [idx5] <;> simp
  have e0 := e 0; have e1 := e 1; have e2 := e 2; have e3 := e 3
  simp only [e0, e1, e2, e3]
  rfl

end Cert.KernelIdeal.Host
-- ==== Proof.Row.lean ====
/- One row of attention over the extended reals, as the kernel computes it (scores in base 2 up to the end of the
   query's tile, probabilities times 256) and as the reference does (base e, all the keys), and that they agree. -/
module

public import Idealize.ShloMosaic.PureOps.Ideal.Laws
public import Idealize.ShloMosaic.Lib.IdealHost

@[expose] public section

noncomputable section

namespace Cert.Row

open Idealize.ShloMosaic

/-- The constants of both programs. -/
theorem bits8 : Ideal.ofBits .f32 0x41000000#32 = ((8 : ℝ) : EReal) := by
  simp [Ideal.ofBits, Ideal.ieee]; rw [← EReal.coe_mul]; congr 1; norm_num
theorem bits256 : Ideal.ofBits .f32 0x43800000#32 = ((256 : ℝ) : EReal) := by
  simp [Ideal.ofBits, Ideal.ieee]; rw [← EReal.coe_mul]; congr 1; norm_num
theorem bits16th : Ideal.ofBits .f32 0x3D800000#32 = ((1 / 16 : ℝ) : EReal) := by
  simp [Ideal.ofBits, Ideal.ieee]; rw [← EReal.coe_mul]; congr 1; norm_num
theorem bits2 : Ideal.ofBits .f32 0x40000000#32 = ((2 : ℝ) : EReal) := by
  simp [Ideal.ofBits, Ideal.ieee]; rw [← EReal.coe_mul]; congr 1; norm_num
theorem bits0 : Ideal.ofBits .f32 0x00000000#32 = 0 := by
  simp [Ideal.ofBits, Ideal.ieee]
theorem tiny_pos : (0 : EReal) < Ideal.ofBits .f32 0x00800000#32 := by
  simp [Ideal.ofBits, Ideal.ieee]; rw [← EReal.coe_mul]; exact EReal.coe_pos.mpr (by norm_num)

/-- The factor of a logarithm's base. -/
abbrev L : EReal := ((1 / Real.log 2 : ℝ) : EReal)

theorem log2_pos : 0 < Real.log 2 := Real.log_pos (by norm_num)

theorem L_nonneg : (0 : EReal) ≤ L := by
  have := log2_pos
  exact EReal.coe_nonneg.mpr (by positivity)

theorem L_pos : (0 : EReal) < L := by
  have := log2_pos
  exact EReal.coe_pos.mpr (by positivity)

theorem factor : Ideal.div (Ideal.ofBits .f32 0x3D800000#32) (Ideal.log (Ideal.ofBits .f32 0x40000000#32)) = ((1 / 16 : ℝ) : EReal) * L := by
  have h := log2_pos
  rw [bits16th, bits2]
  have e : Ideal.log ((2 : ℝ) : EReal) = ((Real.log 2 : ℝ) : EReal) := by
    show (if (2 : ℝ) ≤ 0 then ⊥ else ((Real.log 2 : ℝ) : EReal)) = _
    rw [if_neg (by norm_num)]
  rw [e, Ideal.div, if_neg (by exact_mod_cast h.ne'), ← EReal.coe_inv, L, one_div (Real.log 2)]

/-- The base of the exponential: a score, shifted by the maximum and by 8 in base 2, is 256 times the one in base e. -/
theorem base (y M : EReal) (h : y ≤ M) :
    Ideal.exp2 (y * L - (M * L - ((8 : ℝ) : EReal))) = ((256 : ℝ) : EReal) * Ideal.exp (y - M) := by
  have hl := log2_pos
  have z : Ideal.exp2 ⊥ = ((256 : ℝ) : EReal) * Ideal.exp ⊥ := by
    show (0 : EReal) = _ * 0
    rw [mul_zero]
  have tl : (⊤ : EReal) * L = ⊤ := EReal.top_mul_of_pos L_pos
  have bl : (⊥ : EReal) * L = ⊥ := EReal.bot_mul_of_pos L_pos
  induction M with
  | bot =>
    have hy : y = ⊥ := le_bot_iff.mp h
    rw [hy, bl]
    exact z
  | top =>
    rw [tl]
    have e1 : (⊤ : EReal) - ((8 : ℝ) : EReal) = ⊤ := rfl
    rw [e1, EReal.sub_top, EReal.sub_top]
    exact z
  | coe M =>
    induction y with
    | bot =>
      rw [bl, EReal.bot_sub, EReal.bot_sub]
      exact z
    | top => exact absurd h (by simp)
    | coe y =>
      have e1 : ((y : EReal) * L - ((M : EReal) * L - ((8 : ℝ) : EReal))) = ((y * (1 / Real.log 2) - (M * (1 / Real.log 2) - 8) : ℝ) : EReal) := by
        push_cast
        rfl
      have e2 : ((y : EReal) - (M : EReal)) = ((y - M : ℝ) : EReal) := rfl
      rw [e1, e2]
      show ((Real.rpow 2 _ : ℝ) : EReal) = ((256 : ℝ) : EReal) * ((Real.exp _ : ℝ) : EReal)
      rw [← EReal.coe_mul]
      congr 1
      show (2 : ℝ) ^ (y * (1 / Real.log 2) - (M * (1 / Real.log 2) - 8) : ℝ) = _
      have e3 : (y * (1 / Real.log 2) - (M * (1 / Real.log 2) - 8) : ℝ) = 8 + (y - M) / Real.log 2 := by ring
      rw [e3, Real.rpow_add (by norm_num), Real.rpow_def_of_pos (by norm_num : (0 : ℝ) < 2) ((y - M) / Real.log 2)]
      congr 1
      · norm_num
      · congr 1
        field_simp

/-- A query's score of a key in the kernel, up to the query's scale. -/
def sc2 (n s : ℕ) (D K : ℕ → EReal) (kk : ℕ) : EReal :=
  if kk / 128 + 1 = n ∧ ¬ kk % 128 ≤ s % 128 then ⊥
  else D kk * (K kk * Ideal.div (Ideal.ofBits .f32 0x3D800000#32) (Ideal.log (Ideal.ofBits .f32 0x40000000#32)))

/-- The kernel's weight of a key. -/
def w2 (n s : ℕ) (D K : ℕ → EReal) (c : EReal) (kk : ℕ) : EReal :=
  Ideal.exp2 (sc2 n s D K kk * c - ((Finset.range (n * 128)).sup (sc2 n s D K) * c - Ideal.ofBits .f32 0x41000000#32))

/-- The reference's score. -/
def sce (s : ℕ) (D K : ℕ → EReal) (c : EReal) (kk : ℕ) : EReal :=
  if kk ≤ s then D kk * (c * Ideal.ofBits .f32 0x3D800000#32) * K kk else ⊥

/-- The reference's probability of a key. -/
def pe (s : ℕ) (D K : ℕ → EReal) (c : EReal) (kk : ℕ) : EReal :=
  Ideal.exp (sce s D K c kk - (Finset.range 2048).sup (sce s D K c))

section

variable (n s : ℕ) (D K V : ℕ → EReal) (c : EReal)

theorem sc_eq (hs : s / 128 + 1 = n) (hc : 0 < c) {kk : ℕ} (hk : kk < n * 128) : sc2 n s D K kk * c = sce s D K c kk * L := by
  unfold sc2 sce
  by_cases h : kk ≤ s
  · rw [if_pos h, if_neg (by omega), factor, bits16th]
    ac_rfl
  · rw [if_neg h, if_pos (by omega), EReal.bot_mul_of_pos hc, EReal.bot_mul_of_pos L_pos]

theorem max_eq (hs : s / 128 + 1 = n) (hn : n ≤ 16) (hc : 0 < c) :
    (Finset.range (n * 128)).sup (sc2 n s D K) * c = (Finset.range 2048).sup (sce s D K c) * L := by
  obtain ⟨k0, h0, e0⟩ := Finset.exists_mem_eq_sup (Finset.range (n * 128)) ⟨0, Finset.mem_range.mpr (by omega)⟩ (sc2 n s D K)
  obtain ⟨k1, h1, e1⟩ := Finset.exists_mem_eq_sup (Finset.range 2048) ⟨0, Finset.mem_range.mpr (by omega)⟩ (sce s D K c)
  have h0' := Finset.mem_range.mp h0
  apply le_antisymm
  · rw [e0, sc_eq n s D K c hs hc h0']
    exact mul_le_mul_of_nonneg_right (Finset.le_sup (f := sce s D K c) (Finset.mem_range.mpr (by omega))) L_nonneg
  · rw [e1]
    by_cases hk : k1 < n * 128
    · rw [← sc_eq n s D K c hs hc hk]
      exact mul_le_mul_of_nonneg_right (Finset.le_sup (f := sc2 n s D K) (Finset.mem_range.mpr hk)) hc.le
    · have : sce s D K c k1 = ⊥ := by
        unfold sce
        exact if_neg (by omega)
      rw [this, EReal.bot_mul_of_pos L_pos]
      exact bot_le

theorem w_eq (hs : s / 128 + 1 = n) (hn : n ≤ 16) (hc : 0 < c) {kk : ℕ} (hk : kk < n * 128) :
    w2 n s D K c kk = ((256 : ℝ) : EReal) * pe s D K c kk := by
  unfold w2 pe
  rw [sc_eq n s D K c hs hc hk, max_eq n s D K c hs hn hc, bits8]
  exact base _ _ (Finset.le_sup (f := sce s D K c) (Finset.mem_range.mpr (by omega)))

theorem pe_zero (hs : s / 128 + 1 = n) {kk : ℕ} (hk : ¬ kk < n * 128) : pe s D K c kk = 0 := by
  unfold pe
  have : sce s D K c kk = ⊥ := by
    unfold sce
    exact if_neg (by omega)
  rw [this, EReal.bot_sub]
  rfl

theorem exp_nonneg (x : EReal) : 0 ≤ Ideal.exp x := by
  induction x with
  | bot => exact le_refl (0 : EReal)
  | top => exact le_top
  | coe r =>
    show (0 : EReal) ≤ ((Real.exp r : ℝ) : EReal)
    exact_mod_cast (Real.exp_pos r).le

theorem mul_sum (a : EReal) (f : ℕ → EReal) (hf : ∀ i, 0 ≤ f i) (N : ℕ) :
    ∑ i ∈ Finset.range N, a * f i = a * ∑ i ∈ Finset.range N, f i := by
  induction N with
  | zero => simp
  | succ N ih =>
    rw [Finset.sum_range_succ, Finset.sum_range_succ, ih, EReal.left_distrib_of_nonneg (Finset.sum_nonneg fun i _ => hf i) (hf N)]

theorem cut {N : ℕ} (hN : N ≤ 2048) (f : ℕ → EReal) (hf : ∀ k, ¬ k < N → f k = 0) :
    ∑ i ∈ Finset.range N, f i = ∑ i : Fin 2048, f i.val := by
  rw [Fin.sum_univ_eq_sum_range (fun i => f i) 2048]
  exact Finset.sum_subset (Finset.range_subset_range.mpr hN) fun k _ hk => hf k (by simpa using hk)

/-- The sum of a row's weights. -/
theorem sum_eq (hs : s / 128 + 1 = n) (hn : n ≤ 16) (hc : 0 < c) :
    ∑ kk ∈ Finset.range (n * 128), w2 n s D K c kk = Ideal.ofBits .f32 0x43800000#32 * ∑ kk : Fin 2048, pe s D K c kk.val := by
  rw [Finset.sum_congr rfl fun kk hk => w_eq n s D K c hs hn hc (Finset.mem_range.mp hk), mul_sum _ (pe s D K c) (fun _ => exp_nonneg _),
    cut (by omega) _ (fun k hk => pe_zero n s D K c hs hk), bits256]

/-- The weighted sum of a row's values. -/
theorem mix_eq (hs : s / 128 + 1 = n) (hn : n ≤ 16) (hc : 0 < c) :
    ∑ kk : Fin (n * 128), V kk.val * min (Ideal.ofBits .f32 0x43E00000#32) (max (Ideal.ofBits .f32 0x00000000#32) (w2 n s D K c kk.val))
      = ∑ kk : Fin 2048, min (Ideal.ofBits .f32 0x43E00000#32) (max (Ideal.ofBits .f32 0x00000000#32) (pe s D K c kk.val * Ideal.ofBits .f32 0x43800000#32)) * V kk.val := by
  have e448 : (0 : EReal) ≤ Ideal.ofBits .f32 0x43E00000#32 := by
    simp [Ideal.ofBits, Ideal.ieee]; rw [← EReal.coe_mul]; exact EReal.coe_nonneg.mpr (by norm_num)
  rw [Fin.sum_univ_eq_sum_range (fun kk => V kk * min (Ideal.ofBits .f32 0x43E00000#32) (max (Ideal.ofBits .f32 0x00000000#32) (w2 n s D K c kk))) (n * 128)]
  rw [← cut (by omega : n * 128 ≤ 2048) (fun kk => min (Ideal.ofBits .f32 0x43E00000#32) (max (Ideal.ofBits .f32 0x00000000#32) (pe s D K c kk * Ideal.ofBits .f32 0x43800000#32)) * V kk)
    (fun k hk => by
      show min _ (max _ (pe s D K c k * _)) * V k = 0
      rw [pe_zero n s D K c hs hk, zero_mul, bits0, max_self, min_eq_right e448, zero_mul])]
  refine Finset.sum_congr rfl fun kk hk => ?_
  rw [w_eq n s D K c hs hn hc (Finset.mem_range.mp hk), bits256, mul_comm (V kk), mul_comm (pe s D K c kk)]

end

end Cert.Row
-- ==== Proof.Common.lean ====
/- The attention result as one formula in the arguments. -/
module

public import proofs.«01_k».proof.Proof.Row

@[expose] public section

noncomputable section

namespace Cert.Row

open Idealize.ShloMosaic

/-- The result of one row at one channel, from the products `D`, the key scales `K`, the values `V`, the query's scale
    `c` and the value scale `z`. -/
def res (s : ℕ) (D K V : ℕ → EReal) (c z : EReal) : EReal :=
  Ideal.div (∑ kk : Fin 2048, min (Ideal.ofBits .f32 0x43E00000#32) (max (Ideal.ofBits .f32 0x00000000#32) (pe s D K c kk.val * Ideal.ofBits .f32 0x43800000#32)) * V kk.val)
    (Ideal.ofBits .f32 0x43800000#32 * ∑ kk : Fin 2048, pe s D K c kk.val) * z

/-- The result array's element at batch `b`, half `h`, row `r` and channel `n`. -/
def out (x0 : ℕ → ℕ → ℕ → ℕ → EReal) (x1 : ℕ → ℕ → ℕ → EReal) (x2 : ℕ → ℕ → ℕ → ℕ → EReal) (x3 : ℕ → ℕ → ℕ → EReal)
    (x4 : ℕ → ℕ → ℕ → ℕ → EReal) (x5 : ℕ → ℕ → ℕ → EReal) (b h r n : ℕ) : EReal :=
  res (h * 1024 + r) (fun kk => ∑ d : Fin 256, x0 b (h * 1024 + r) (n / 256) d.val * x2 b kk (n / 1024) d.val) (fun kk => x3 b kk (n / 1024))
    (fun kk => x4 b kk (n / 1024) (n % 256)) (max (x1 b (h * 1024 + r) (n / 256)) (Ideal.ofBits .f32 0x00800000#32)) (x5 b (n / 1024) (n % 256))

end Cert.Row
-- ==== Proof.Final.lean ====
/- The kernel's result array. -/
module

public import proofs.«01_k».proof.Proof.Host
public import proofs.«01_k».proof.Proof.Common

@[expose] public section

noncomputable section

namespace Cert.KernelIdeal.Final

open Idealize.ShloMosaic Idealize.ShloMosaic.TcCoe Idealize.ShloMosaic.Tactic
open Cert.KernelIdeal.Gen Cert.KernelIdeal.Attend Cert.KernelIdeal.Run Cert.KernelIdeal.Host

variable (m : (ℓ : Loc nD τ sig) → Buf (Elt Ideal) ℓ) (c : Dev nD) (t : Fin cfg0.N)

/-- The result array's element, of the arguments in memory. -/
def G (b h r n : ℕ) : EReal := Row.out (a0 m c) (a1 m c) (a2 m c) (a3 m c) (a4 m c) (a5 m c) b h r n

section

variable (h g i q d : ℕ) (hh : h < 2) (hg : g < 4) (hi : i < 4) (hq : q < 128) (hd : d < 256)

/-- The products of a query row with the keys. -/
def D (kk : ℕ) : EReal := ∑ d : Fin 256, a0 m c (t.val / 8) (h * 1024 + (t.val % 8 * 128 + q)) (g * 4 + i) d.val * a2 m c (t.val / 8) kk g d.val

include hh hg hi hq

theorem dt_eq (kk : ℕ) (hk : kk < 2048) : Dt (ins m c t) h g kk (i * 128 + q) = D m c t h g i q kk := by
  unfold Dt D
  refine Finset.sum_congr rfl fun d _ => ?_
  rw [x4_at m c t g kk d.val hg hk d.isLt, x2_at m c t h g (i * 128 + q) d.val hh hg (by omega) d.isLt, mul_comm]
  have e1 : (i * 128 + q) % 128 = q := by omega
  have e2 : (i * 128 + q) / 128 = i := by omega
  rw [e1, e2, Nat.add_assoc]

theorem sc_eq (n kk : ℕ) (hk : kk < 2048) :
    Sc (ins m c t) h g n kk (i * 128 + q) = Row.sc2 n (h * 1024 + (t.val % 8 * 128 + q)) (D m c t h g i q) (fun kk => a3 m c (t.val / 8) kk g) kk := by
  unfold Sc Row.sc2
  have e1 : (i * 128 + q) % 128 = q := by omega
  have e2 : (h * 1024 + (t.val % 8 * 128 + q)) % 128 = q := by omega
  rw [e1, e2, dt_eq m c t h g i q hh hg hi hq kk hk, x5_at m c t g kk q hg hk hq]

theorem qs_eq : Qs (ins m c t) h g (i * 128 + q) = max (a1 m c (t.val / 8) (h * 1024 + (t.val % 8 * 128 + q)) (g * 4 + i)) (Ideal.ofBits .f32 0x00800000#32) := by
  unfold Qs
  have e1 : (i * 128 + q) % 128 = q := by omega
  have e2 : (i * 128 + q) / 128 = i := by omega
  rw [e1, e2, x3_at m c t h (g * 4 + i) q hh (by omega) hq, Nat.add_assoc]

theorem wt_eq (n kk : ℕ) (hn : n ≤ 16) (hk : kk < n * 128) :
    Wt (ins m c t) h g n kk (i * 128 + q) = Row.w2 n (h * 1024 + (t.val % 8 * 128 + q)) (D m c t h g i q) (fun kk => a3 m c (t.val / 8) kk g)
      (max (a1 m c (t.val / 8) (h * 1024 + (t.val % 8 * 128 + q)) (g * 4 + i)) (Ideal.ofBits .f32 0x00800000#32)) kk := by
  unfold Wt Row.w2 Mx
  rw [qs_eq m c t h g i q hh hg hi hq, sc_eq m c t h g i q hh hg hi hq n kk (by omega),
    Finset.sup_congr rfl fun kk hk => sc_eq m c t h g i q hh hg hi hq n kk (by have := Finset.mem_range.mp hk; omega)]

include hd

theorem ov_eq : Ov (ins m c t) h g (t.val % 8 + h * 8 + 1) i q d = G m c (t.val / 8) h (t.val % 8 * 128 + q) (g * 1024 + i * 256 + d) := by
  have hn : t.val % 8 + h * 8 + 1 ≤ 16 := by omega
  have hs : (h * 1024 + (t.val % 8 * 128 + q)) / 128 + 1 = t.val % 8 + h * 8 + 1 := by omega
  generalize t.val % 8 + h * 8 + 1 = n at hn hs ⊢
  have f1 : (g * 1024 + i * 256 + d) / 256 = g * 4 + i := by omega
  have f2 : (g * 1024 + i * 256 + d) / 1024 = g := by omega
  have f3 : (g * 1024 + i * 256 + d) % 256 = d := by omega
  have hc : (0 : EReal) < max (a1 m c (t.val / 8) (h * 1024 + (t.val % 8 * 128 + q)) (g * 4 + i)) (Ideal.ofBits .f32 0x00800000#32) :=
    lt_of_lt_of_le Row.tiny_pos (le_max_right _ _)
  unfold Ov Ls G Row.out Row.res
  rw [f1, f2, f3, x7_at m c t g d hg hd,
    Finset.sum_congr rfl fun kk hk => wt_eq m c t h g i q hh hg hi hq n kk hn (Finset.mem_range.mp hk),
    Row.sum_eq n _ _ _ _ hs hn hc]
  congr 2
  refine Eq.trans (Finset.sum_congr rfl fun kk _ => ?_) (Row.mix_eq n _ _ (fun kk => a3 m c (t.val / 8) kk g) (fun kk => a4 m c (t.val / 8) kk g d) _ hs hn hc)
  have hk := kk.isLt
  rw [wt_eq m c t h g i q hh hg hi hq n kk.val hn hk, x6_at m c t g d kk.val hg hd (by omega)]
  rfl

end

/-- The result array after the run. -/
theorem final : (dats m 0 c).arrAt 6 cfg0.N = fun j : S8x2x1024x4096.Idx => G m c (j 0).val (j 1).val (j 2).val (j 3).val := by
  refine (dats m 0 c).arrAt_eq_of_covers 6 _ (by decide +kernel) fun t hf y => ?_
  blk_simp
  rw [after0_6]
  have h0 : (y 0).val < 1 := (y 0).isLt
  have h1 : (y 1).val < 2 := (y 1).isLt
  have h2 : (y 2).val < 128 := (y 2).isLt
  have h3 : (y 3).val < 4096 := (y 3).isLt
  unfold fin
  refine (ov_eq m c t (y 1).val ((y 3).val / 1024) ((y 3).val / 256 % 4) (y 2).val ((y 3).val % 256) h1 (by omega) (by omega) h2 (by omega)).trans ?_
  have e4 : (y 3).val / 1024 * 1024 + (y 3).val / 256 % 4 * 256 + (y 3).val % 256 = (y 3).val := by omega
  rw [idx6 t, e4]
  show G m c _ _ _ _ = G m c (t.val / 8) (0 * 2 + (y 1).val) (t.val % 8 * 128 + (y 2).val) (0 * 4096 + (y 3).val)
  rw [zero_mul, zero_mul, zero_add, zero_add]

end Cert.KernelIdeal.Final
-- ==== Proof.RefBody.lean ====
/- What the reference's body stores, element by element. -/
module

public import proofs.«01_k».proof.Proof.Gen.ReferenceIdeal.Value
public import proofs.«01_k».proof.Proof.Common
public import Idealize.ShloMosaic.PureOps.Ideal.Laws
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ReferenceIdeal.Body

open Idealize.ShloMosaic Idealize.ShloMosaic.TcCoe Idealize.ShloMosaic.Tactic
open Cert.ReferenceIdeal.Gen

/-- The order of two coordinates, as their words compare. -/
theorem sle_ofNat (a b : ℕ) (ha : a < 2 ^ 31) (hb : b < 2 ^ 31) :
    IntOp.cmpi .sle (BitVec.ofNat 32 a) (BitVec.ofNat 32 b) = 1#1 ↔ a ≤ b := by
  have ea : (BitVec.ofNat 32 a).toInt = a := by
    rw [BitVec.toInt_eq_toNat_of_lt (by rw [BitVec.toNat_ofNat]; omega), BitVec.toNat_ofNat, Nat.mod_eq_of_lt (by omega)]
  have eb : (BitVec.ofNat 32 b).toInt = b := by
    rw [BitVec.toInt_eq_toNat_of_lt (by rw [BitVec.toNat_ofNat]; omega), BitVec.toNat_ofNat, Nat.mod_eq_of_lt (by omega)]
  show BitVec.ofBool (decide ((BitVec.ofNat 32 a).toInt ≤ (BitVec.ofNat 32 b).toInt)) = 1#1 ↔ a ≤ b
  rw [ea, eb]
  by_cases h : a ≤ b <;> simp [h]

theorem bot : Ideal.ofBits .f32 0xFF800000#32 = ⊥ := by
  simp [Ideal.ofBits, Ideal.ieee]

theorem fold_sup (f : ℕ → EReal) : (Finset.univ : Finset (Fin 2048)).fold max ⊥ (fun x => f x.val) = (Finset.range 2048).sup f := by
  apply le_antisymm
  · rw [Finset.fold_max_le]
    exact ⟨bot_le, fun x _ => Finset.le_sup (f := f) (Finset.mem_range.mpr x.isLt)⟩
  · rw [Finset.sup_le_iff]
    intro b hb
    have hb' := Finset.mem_range.mp hb
    exact (Finset.fold_max_le (c := (Finset.univ : Finset (Fin 2048)).fold max ⊥ (fun x => f x.val))).mp (le_refl _) |>.2 ⟨b, hb'⟩ (Finset.mem_univ _)

variable (q k v : Vec Ideal S128x2048x256 .fp8e4m3) (qs : Vec Ideal S128x2048x1 .f32) (ks : Vec Ideal S128x1x2048 .f32) (vs : Vec Ideal S128x1x256 .f32)

/-- A row's probabilities: `D` the products, `K` the key scales, `c` the query's scale. -/
theorem pay2_at (B : Fin 128) (s t : Fin 2048) (D K : ℕ → EReal) (c : EReal)
    (hD : ∀ t : Fin 2048, (∑ d : Fin 256, q (Idealize.ShloMosaic.ix3 B s d) * k (Idealize.ShloMosaic.ix3 B t d) : EReal) = D t.val)
    (hK : ∀ t : Fin 2048, (ks (Idealize.ShloMosaic.ix3 B (0 : Fin 1) t) : EReal) = K t.val) (hc : (qs (Idealize.ShloMosaic.ix3 B s (0 : Fin 1)) : EReal) = c) :
    (k0_pay2 q k qs ks (Idealize.ShloMosaic.ix3 B s t) : EReal) = Row.pe s.val D K c t.val := by
  have key : ∀ t : Fin 2048, (Scalar.select (IntOp.cmpi .sle (BitVec.ofNat 32 t.val) (BitVec.ofNat 32 s.val))
      (D t.val * (c * Ideal.ofBits .f32 0x3D800000#32) * K t.val) (⊥ : EReal) : EReal) = Row.sce s.val D K c t.val := by
    intro t
    unfold Scalar.select Row.sce
    have hs := sle_ofNat t.val s.val (by omega) (by omega)
    by_cases h : t.val ≤ s.val
    · exact (if_pos (hs.mpr h)).trans (if_pos h).symm
    · exact (if_neg (fun h' => h (hs.mp h'))).trans (if_neg h).symm
  unfold k0_pay2
  pointwise
  simp only [hD, hK, hc, bot, key]
  unfold Row.pe
  rw [← fold_sup]

theorem pay3_at (B : Fin 128) (s : Fin 2048) :
    (k0_pay3 q k qs ks (Idealize.ShloMosaic.ix3 B s (0 : Fin 1)) : EReal) = ∑ t : Fin 2048, (k0_pay2 q k qs ks (Idealize.ShloMosaic.ix3 B s t) : EReal) := by
  unfold k0_pay3
  pointwise
  done

theorem pay4_at (B : Fin 128) (s t : Fin 2048) :
    (k0_pay4 q k qs ks (Idealize.ShloMosaic.ix3 B s t) : EReal) = min (Ideal.ofBits .f32 0x43E00000#32) (max (Ideal.ofBits .f32 0x00000000#32) ((k0_pay2 q k qs ks (Idealize.ShloMosaic.ix3 B s t) : EReal) * Ideal.ofBits .f32 0x43800000#32)) := by
  unfold k0_pay4
  rw [Row.bits0]
  pointwise
  done

end Cert.ReferenceIdeal.Body
-- ==== Proof.RefPay1.lean ====
/- What the reference's body stores, element by element: the division and the result's layout. -/
module

public import proofs.«01_k».proof.Proof.Gen.ReferenceIdeal.Value
public import Idealize.ShloMosaic.PureOps.Ideal.Laws
public import Idealize.ShloMosaic.Lib.Pointwise
public import Idealize.ShloMosaic.Lib.Pipeline.ValueKit

@[expose] public section

set_option maxRecDepth 65536

noncomputable section

namespace Cert.ReferenceIdeal.Body

open Idealize.ShloMosaic Idealize.ShloMosaic.TcCoe Idealize.ShloMosaic.Tactic
open Cert.ReferenceIdeal.Gen

theorem pay1_at (v : Vec Ideal S128x2048x256 .fp8e4m3) (vs : Vec Ideal S128x1x256 .f32) (l : FVec Ideal S128x2048x1 .f32) (p : FVec Ideal S128x2048x2048 .fp8e4m3) (b : Fin 8) (h : Fin 2) (r : Fin 1024) (n : Fin 4096)
    (B : Fin 128) (s : Fin 2048) (d : Fin 256) (hB : B.val = b.val * 16 + n.val / 256) (hs : s.val = h.val * 1024 + r.val) (hd : d.val = n.val % 256) :
    (k0_pay1 l p (k0_pay5 v) (constant S128x2048x256 .f32 0x00000000#32) vs (Idealize.ShloMosaic.ix4 b h r n) : EReal) =
      Ideal.div (∑ x : Fin 2048, (p (Idealize.ShloMosaic.ix3 B s x) : EReal) * v (Idealize.ShloMosaic.ix3 B x d)) (Ideal.ofBits .f32 0x43800000#32 * l (Idealize.ShloMosaic.ix3 B s (0 : Fin 1))) * vs (Idealize.ShloMosaic.ix3 B (0 : Fin 1) d) := by
  have lB : b.val * 16 + n.val / 256 < 128 := by omega
  have ls : h.val * 1024 + r.val < 2048 := by omega
  have ld : n.val % 256 < 256 := by omega
  have eB : B = ⟨b.val * 16 + n.val / 256, lB⟩ := Fin.ext hB
  have es : s = ⟨h.val * 1024 + r.val, ls⟩ := Fin.ext hs
  have ed : d = ⟨n.val % 256, ld⟩ := Fin.ext hd
  clear hB hs hd
  subst eB es ed
  unfold k0_pay1 k0_pay5
  pointwise
  done

end Cert.ReferenceIdeal.Body
-- ==== Proof.RefHost.lean ====
/- What the reference's six operands hold, in terms of the arguments, and its result array. -/
module

public import proofs.«01_k».proof.Proof.RefBody
public import proofs.«01_k».proof.Proof.RefPay1

@[expose] public section

set_option maxRecDepth 16384

noncomputable section

namespace Cert.ReferenceIdeal.Host

open Idealize.ShloMosaic Idealize.ShloMosaic.TcCoe Idealize.ShloMosaic.Tactic
open Cert.ReferenceIdeal.Gen Cert.ReferenceIdeal.Body

variable (m : (ℓ : Loc nD τ sig) → Buf (Elt Ideal) ℓ) (c : Dev nD) (t : Fin cfg0.N)

/-- An array read at natural coordinates: `0` outside. -/
def nat {sh : Shape} (x : sh.Idx → EReal) (p : Fin sh.rank → ℕ) : EReal :=
  if h : ∀ a, p a < sh.size a then x fun a => ⟨p a, h a⟩ else 0

theorem nat_eq {sh : Shape} (x : sh.Idx → EReal) (p : Fin sh.rank → ℕ) (y : sh.Idx) (h : ∀ a, p a = (y a).val) : nat x p = x y := by
  have h' : ∀ a, p a < sh.size a := fun a => (h a).symm ▸ (y a).isLt
  rw [nat, dif_pos h']
  exact congrArg x (funext fun a => Fin.ext (h a))

/-! The arguments, at natural coordinates. -/
def a0 (b s h d : ℕ) : EReal := nat (sh := S8x2048x16x256) (m ((c : Thread nD τ).loc main_arg0)) ![b, s, h, d]
def a1 (b s h : ℕ) : EReal := nat (sh := S8x2048x16) (m ((c : Thread nD τ).loc main_arg1)) ![b, s, h]
def a2 (b s g d : ℕ) : EReal := nat (sh := S8x2048x4x256) (m ((c : Thread nD τ).loc main_arg2)) ![b, s, g, d]
def a3 (b s g : ℕ) : EReal := nat (sh := S8x2048x4) (m ((c : Thread nD τ).loc main_arg3)) ![b, s, g]
def a4 (b s g d : ℕ) : EReal := nat (sh := S8x2048x4x256) (m ((c : Thread nD τ).loc main_arg4)) ![b, s, g, d]
def a5 (b g d : ℕ) : EReal := nat (sh := S8x4x256) (m ((c : Thread nD τ).loc main_arg5)) ![b, g, d]

theorem nat_ext {sh : Shape} (x : sh.Idx → EReal) (y : sh.Idx) (p : Fin sh.rank → ℕ) (h : ∀ a, p a = (y a).val) : x y = nat x p := (nat_eq x p y h).symm

/-! The operand arrays after the host operations. -/

theorem v2 (y : S128x2048x256.Idx) : V m c main_v2 y = a0 m c ((y 0).val / 16) (y 1).val ((y 0).val % 16) (y 2).val := by
  have h0 : (y 0).val < 128 := (y 0).isLt; have h1 : (y 1).val < 2048 := (y 1).isLt; have h2 : (y 2).val < 256 := (y 2).isLt
  unfold V
  after_reads_at
  exact nat_ext _ _ _ (fun a => by fin_cases a <;> first | rfl | simp <;> omega)

theorem v8 (y : S128x2048x1.Idx) : V m c main_v8 y = max (a1 m c ((y 0).val / 16) (y 1).val ((y 0).val % 16)) (Ideal.ofBits .f32 0x00800000#32) := by
  have h0 : (y 0).val < 128 := (y 0).isLt; have h1 : (y 1).val < 2048 := (y 1).isLt; have h2 : (y 2).val < 1 := (y 2).isLt
  unfold V
  after_reads_at
  exact congrArg (max · _) (nat_ext _ _ _ (fun a => by fin_cases a <;> first | rfl | simp <;> omega))

theorem v12 (y : S128x2048x256.Idx) : V m c main_v12 y = a2 m c ((y 0).val / 16) (y 1).val ((y 0).val % 16 / 4) (y 2).val := by
  have h0 : (y 0).val < 128 := (y 0).isLt; have h1 : (y 1).val < 2048 := (y 1).isLt; have h2 : (y 2).val < 256 := (y 2).isLt
  unfold V
  after_reads_at
  exact nat_ext _ _ _ (fun a => by fin_cases a <;> first | rfl | simp <;> omega)

theorem v18 (y : S128x1x2048.Idx) : V m c main_v18 y = a3 m c ((y 0).val / 16) (y 2).val ((y 0).val % 16 / 4) := by
  have h0 : (y 0).val < 128 := (y 0).isLt; have h1 : (y 1).val < 1 := (y 1).isLt; have h2 : (y 2).val < 2048 := (y 2).isLt
  unfold V
  after_reads_at
  exact nat_ext _ _ _ (fun a => by fin_cases a <;> first | rfl | simp <;> omega)

theorem v22 (y : S128x2048x256.Idx) : V m c main_v22 y = a4 m c ((y 0).val / 16) (y 1).val ((y 0).val % 16 / 4) (y 2).val := by
  have h0 : (y 0).val < 128 := (y 0).isLt; have h1 : (y 1).val < 2048 := (y 1).isLt; have h2 : (y 2).val < 256 := (y 2).isLt
  unfold V
  after_reads_at
  exact nat_ext _ _ _ (fun a => by fin_cases a <;> first | rfl | simp <;> omega)

theorem v27 (y : S128x1x256.Idx) : V m c main_v27 y = a5 m c ((y 0).val / 16) ((y 0).val % 16 / 4) (y 2).val := by
  have h0 : (y 0).val < 128 := (y 0).isLt; have h1 : (y 1).val < 1 := (y 1).isLt; have h2 : (y 2).val < 256 := (y 2).isLt
  unfold V
  after_reads_at
  exact nat_ext _ _ _ (fun a => by fin_cases a <;> first | rfl | simp <;> omega)

/-! The blocks: the whole arrays. -/

theorem blk0 (y : S128x2048x256.Idx) : iblk m c 0 t y = V m c main_v2 y := by
  have e : win0_0.index t = ![0, 0, 0] := (by decide +kernel : ∀ t : Fin grid0.N, win0_0.index t = ![0, 0, 0]) t
  blk_simp [iblk, e]
  refine congrArg (V m c main_v2) (funext fun a => Fin.ext ?_)
  fin_cases a <;> blk_simp [e] <;> simp

theorem blk1 (y : S128x2048x1.Idx) : iblk m c 1 t y = V m c main_v8 y := by
  have e : win0_1.index t = ![0, 0, 0] := (by decide +kernel : ∀ t : Fin grid0.N, win0_1.index t = ![0, 0, 0]) t
  blk_simp [iblk, e]
  refine congrArg (V m c main_v8) (funext fun a => Fin.ext ?_)
  fin_cases a <;> blk_simp [e] <;> simp

theorem blk2 (y : S128x2048x256.Idx) : iblk m c 2 t y = V m c main_v12 y := by
  have e : win0_2.index t = ![0, 0, 0] := (by decide +kernel : ∀ t : Fin grid0.N, win0_2.index t = ![0, 0, 0]) t
  blk_simp [iblk, e]
  refine congrArg (V m c main_v12) (funext fun a => Fin.ext ?_)
  fin_cases a <;> blk_simp [e] <;> simp

theorem blk3 (y : S128x1x2048.Idx) : iblk m c 3 t y = V m c main_v18 y := by
  have e : win0_3.index t = ![0, 0, 0] := (by decide +kernel : ∀ t : Fin grid0.N, win0_3.index t = ![0, 0, 0]) t
  blk_simp [iblk, e]
  refine congrArg (V m c main_v18) (funext fun a => Fin.ext ?_)
  fin_cases a <;> blk_simp [e] <;> simp

theorem blk4 (y : S128x2048x256.Idx) : iblk m c 4 t y = V m c main_v22 y := by
  have e : win0_4.index t = ![0, 0, 0] := (by decide +kernel : ∀ t : Fin grid0.N, win0_4.index t = ![0, 0, 0]) t
  blk_simp [iblk, e]
  refine congrArg (V m c main_v22) (funext fun a => Fin.ext ?_)
  fin_cases a <;> blk_simp [e] <;> simp

theorem blk5 (y : S128x1x256.Idx) : iblk m c 5 t y = V m c main_v27 y := by
  have e : win0_5.index t = ![0, 0, 0] := (by decide +kernel : ∀ t : Fin grid0.N, win0_5.index t = ![0, 0, 0]) t
  blk_simp [iblk, e]
  refine congrArg (V m c main_v27) (funext fun a => Fin.ext ?_)
  fin_cases a <;> blk_simp [e] <;> simp

/-- The result array's element, of the arguments in memory. -/
def G (b h r n : ℕ) : EReal := Row.out (a0 m c) (a1 m c) (a2 m c) (a3 m c) (a4 m c) (a5 m c) b h r n

theorem out_at (b : Fin 8) (h : Fin 2) (r : Fin 1024) (n : Fin 4096) :
    (k0_pay1 (k0_pay3 (iblk m c 0 t) (iblk m c 2 t) (iblk m c 1 t) (iblk m c 3 t)) (k0_pay4 (iblk m c 0 t) (iblk m c 2 t) (iblk m c 1 t) (iblk m c 3 t))
      (k0_pay5 (iblk m c 4 t)) (constant S128x2048x256 .f32 0x00000000#32) (iblk m c 5 t) (Idealize.ShloMosaic.ix4 b h r n) : EReal) = G m c b.val h.val r.val n.val := by
  have lB : b.val * 16 + n.val / 256 < 128 := by omega
  have ls : h.val * 1024 + r.val < 2048 := by omega
  have ld : n.val % 256 < 256 := by omega
  have f1 : (b.val * 16 + n.val / 256) / 16 = b.val := by omega
  have f2 : (b.val * 16 + n.val / 256) % 16 = n.val / 256 := by omega
  have f3 : n.val / 256 / 4 = n.val / 1024 := by omega
  rw [pay1_at _ _ _ _ b h r n ⟨_, lB⟩ ⟨_, ls⟩ ⟨_, ld⟩ rfl rfl rfl]
  have p2 : ∀ x : Fin 2048, (k0_pay2 (iblk m c 0 t) (iblk m c 2 t) (iblk m c 1 t) (iblk m c 3 t) (Idealize.ShloMosaic.ix3 (⟨_, lB⟩ : Fin 128) (⟨_, ls⟩ : Fin 2048) x) : EReal)
      = Row.pe (h.val * 1024 + r.val) (fun kk => ∑ d : Fin 256, a0 m c b.val (h.val * 1024 + r.val) (n.val / 256) d.val * a2 m c b.val kk (n.val / 1024) d.val)
        (fun kk => a3 m c b.val kk (n.val / 1024)) (max (a1 m c b.val (h.val * 1024 + r.val) (n.val / 256)) (Ideal.ofBits .f32 0x00800000#32)) x.val := by
    intro x
    refine pay2_at _ _ _ _ _ _ x _ _ _ (fun t' => Finset.sum_congr rfl fun d _ => ?_) (fun t' => ?_) ?_
    · rw [blk0, blk2, v2, v12]
      show a0 m c ((b.val * 16 + n.val / 256) / 16) (h.val * 1024 + r.val) ((b.val * 16 + n.val / 256) % 16) d.val * a2 m c ((b.val * 16 + n.val / 256) / 16) t'.val ((b.val * 16 + n.val / 256) % 16 / 4) d.val = _
      rw [f1, f2, f3]
    · rw [blk3, v18]
      show a3 m c ((b.val * 16 + n.val / 256) / 16) t'.val ((b.val * 16 + n.val / 256) % 16 / 4) = _
      rw [f1, f2, f3]
    · rw [blk1, v8]
      show max (a1 m c ((b.val * 16 + n.val / 256) / 16) (h.val * 1024 + r.val) ((b.val * 16 + n.val / 256) % 16)) _ = _
      rw [f1, f2]
  unfold G Row.out Row.res
  rw [pay3_at, Finset.sum_congr rfl fun x _ => p2 x, blk5, v27]
  refine congrArg₂ (· * ·) (congrArg₂ Ideal.div (Finset.sum_congr rfl fun x _ => ?_) rfl) ?_
  · rw [pay4_at, p2 x, blk4, v22]
    show _ * a4 m c ((b.val * 16 + n.val / 256) / 16) x.val ((b.val * 16 + n.val / 256) % 16 / 4) (n.val % 256) = _
    rw [f1, f2, f3]
  · show a5 m c ((b.val * 16 + n.val / 256) / 16) ((b.val * 16 + n.val / 256) % 16 / 4) (n.val % 256) = _
    rw [f1, f2, f3]

theorem after_at (j : S8x2x1024x4096.Idx) : (dats m 0 c).after 6 t j = G m c (j 0).val (j 1).val (j 2).val (j 3).val := by
  rw [after0_6]
  frame_out
  have e : j = Idealize.ShloMosaic.ix4 (j 0) (j 1) (j 2) (j 3) := funext fun a => by fin_cases a <;> rfl
  rw [e]
  exact out_at m c t (j 0) (j 1) (j 2) (j 3)

/-- The result array after the run. -/
theorem final : (dats m 0 c).arrAt 6 cfg0.N = fun j : S8x2x1024x4096.Idx => G m c (j 0).val (j 1).val (j 2).val (j 3).val := by
  refine (dats m 0 c).arrAt_eq_of_after_last 6 ⟨0, by decide⟩ (by decide +kernel) _ fun j => ?_
  blk_simp
  exact after_at m c _ _

end Cert.ReferenceIdeal.Host
-- ==== Proof.Equal.lean ====
/- The kernel and the reference end with equal results. -/
module

public import proofs.«01_k».proof.Defs
public import proofs.«01_k».proof.Proof.Final
public import proofs.«01_k».proof.Proof.RefHost

@[expose] public section

noncomputable section

namespace Cert.Equal

open Idealize.ShloMosaic Idealize.ShloMosaic.TcCoe Idealize.SL.Sem

/-- The kernel's result, and its arguments unchanged. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v17) = (fun j : KernelIdeal.S8x2x1024x4096.Idx => KernelIdeal.Final.G m c (j 0).val (j 1).val (j 2).val (j 3).val)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5) :=
  (θ_run KernelIdeal.defs _ _).mono (fun r h c => ⟨((h c).1 6).trans (KernelIdeal.Final.final m c),
      ((h c).2 KernelIdeal.main_arg0 (Pipeline.mem_restRefs_of KernelIdeal.main_arg0 (by decide) (by decide))).trans (KernelIdeal.Gen.V_main_arg0 m c),
      ((h c).2 KernelIdeal.main_arg1 (Pipeline.mem_restRefs_of KernelIdeal.main_arg1 (by decide) (by decide))).trans (KernelIdeal.Gen.V_main_arg1 m c),
      ((h c).2 KernelIdeal.main_arg2 (Pipeline.mem_restRefs_of KernelIdeal.main_arg2 (by decide) (by decide))).trans (KernelIdeal.Gen.V_main_arg2 m c),
      ((h c).2 KernelIdeal.main_arg3 (Pipeline.mem_restRefs_of KernelIdeal.main_arg3 (by decide) (by decide))).trans (KernelIdeal.Gen.V_main_arg3 m c),
      ((h c).2 KernelIdeal.main_arg4 (Pipeline.mem_restRefs_of KernelIdeal.main_arg4 (by decide) (by decide))).trans (KernelIdeal.Gen.V_main_arg4 m c),
      ((h c).2 KernelIdeal.main_arg5 (Pipeline.mem_restRefs_of KernelIdeal.main_arg5 (by decide) (by decide))).trans (KernelIdeal.Gen.V_main_arg5 m c)⟩)
    (KernelIdeal.Run.run_main m ρ)

/-- The ideal kernel ends without fault, its arguments unchanged and its semaphores at zero. -/
theorem kernel_frame (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5))
      ∧ r.2.sem = fun _ => 0 :=
  θ_run_and ((θ_run KernelIdeal.defs _ _).mono (fun _ h c => (h c).2) (kernel_run m ρ))
    ((θ_run KernelIdeal.defs _ _).mono (fun _ h => h.2) (KernelIdeal.Run.run_main_quiescent m ρ))

/-- Over the extended reals, from equal arguments, the kernel and the reference end with equal results. -/
theorem algebraic : algebraic_KernelIdeal_ReferenceIdeal (hKernelIdeal := KernelIdeal.Gen.facts) (hReferenceIdeal := ReferenceIdeal.Gen.facts) := by
  intro m g m' g' _ hm
  refine ⟨fun c => fun j : KernelIdeal.S8x2x1024x4096.Idx => KernelIdeal.Final.G m c (j 0).val (j 1).val (j 2).val (j 3).val, kernel_run m g, ?_⟩
  refine (θ_run ReferenceIdeal.defs _ _).mono (fun r h c => ⟨(h c).1.trans ((ReferenceIdeal.Host.final m' c).trans ?_), (h c).2⟩) (ReferenceIdeal.Value.run_blocks m' g')
  obtain ⟨h0, h1, h2, h3, h4, h5⟩ := hm c
  have e0 : ReferenceIdeal.Host.a0 m' c = KernelIdeal.Host.a0 m c := by unfold ReferenceIdeal.Host.a0; rw [h0]; rfl
  have e1 : ReferenceIdeal.Host.a1 m' c = KernelIdeal.Host.a1 m c := by unfold ReferenceIdeal.Host.a1; rw [h1]; rfl
  have e2 : ReferenceIdeal.Host.a2 m' c = KernelIdeal.Host.a2 m c := by unfold ReferenceIdeal.Host.a2; rw [h2]; rfl
  have e3 : ReferenceIdeal.Host.a3 m' c = KernelIdeal.Host.a3 m c := by unfold ReferenceIdeal.Host.a3; rw [h3]; rfl
  have e4 : ReferenceIdeal.Host.a4 m' c = KernelIdeal.Host.a4 m c := by unfold ReferenceIdeal.Host.a4; rw [h4]; rfl
  have e5 : ReferenceIdeal.Host.a5 m' c = KernelIdeal.Host.a5 m c := by unfold ReferenceIdeal.Host.a5; rw [h5]; rfl
  unfold ReferenceIdeal.Host.G KernelIdeal.Final.G
  rw [e0, e1, e2, e3, e4, e5]

end Cert.Equal
-- ==== Proof.lean ====
module

public import proofs.«01_k».proof.Defs
public import proofs.«01_k».proof.Proof.Safe.Frame
public import proofs.«01_k».proof.Proof.Equal

@[expose] public section

/-- The claims: each program leaves its arguments unchanged, the ideal kernel is the kernel, and over the extended reals
    the kernel and the reference end with equal results. -/
theorem Cert.Proof.claim : Cert.Claim :=
  ⟨Cert.Kernel.Gen.facts, Cert.KernelIdeal.Gen.facts, Cert.ReferenceIdeal.Gen.facts, fun m ρ _ => Cert.Kernel.Safe.frame m ρ,
    fun m ρ _ => Cert.Equal.kernel_frame m ρ, fun m ρ _ => Cert.ReferenceIdeal.Gen.frame m ρ, trivial, Cert.Equal.algebraic⟩
